-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Context (m : (ℓ : Loc Cert.Context.nD Cert.Context.τ Cert.Context.sig) → Buf (Elt Bits) ℓ) : Prop :=
  True

def Pre_ContextIdeal (m : (ℓ : Loc Cert.ContextIdeal.nD Cert.ContextIdeal.τ Cert.ContextIdeal.sig) → Buf (Elt Ideal) ℓ) : Prop :=
  True

def Pre_ContextRefIdeal (m : (ℓ : Loc Cert.ContextRefIdeal.nD Cert.ContextRefIdeal.τ Cert.ContextRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9)
      ∧ r.2.mem ((c.tc : Thread Cert.Post.nD Cert.Post.τ).loc Cert.Post.main_arg10) = m ((c.tc : Thread Cert.Post.nD Cert.Post.τ).loc Cert.Post.main_arg10)
      ∧ r.2.mem ((c.tc : Thread Cert.Post.nD Cert.Post.τ).loc Cert.Post.main_arg11) = m ((c.tc : Thread Cert.Post.nD Cert.Post.τ).loc Cert.Post.main_arg11))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
      ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
      ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9)
      ∧ r.2.mem ((c.tc : Thread Cert.PostRefIdeal.nD Cert.PostRefIdeal.τ).loc Cert.PostRefIdeal.main_arg10) = m ((c.tc : Thread Cert.PostRefIdeal.nD Cert.PostRefIdeal.τ).loc Cert.PostRefIdeal.main_arg10)
      ∧ r.2.mem ((c.tc : Thread Cert.PostRefIdeal.nD Cert.PostRefIdeal.τ).loc Cert.PostRefIdeal.main_arg11) = m ((c.tc : Thread Cert.PostRefIdeal.nD Cert.PostRefIdeal.τ).loc Cert.PostRefIdeal.main_arg11))
      ∧ r.2.sem = fun _ => 0)

def quiescent_Context [hContext : Cert.Context.Facts] : Prop :=
  ∀ (m : (ℓ : Loc Cert.Context.nD Cert.Context.τ Cert.Context.sig) → Buf (Elt Bits) ℓ) (g : Dev Cert.Context.nD → PrngReg), Pre_Context m →
    θ_run (Cert.Context.defs (F := Bits)) (onTc (τ := Cert.Context.τ) (Cert.Context.main (F := Bits))) ⟨m, fun _ => 0, g⟩ (fun r => (∀ c : Dev Cert.Context.nD,
      r.2.mem ((c.tc : Thread Cert.Context.nD Cert.Context.τ).loc Cert.Context.main_arg0) = m ((c.tc : Thread Cert.Context.nD Cert.Context.τ).loc Cert.Context.main_arg0)
      ∧ r.2.mem ((c.tc : Thread Cert.Context.nD Cert.Context.τ).loc Cert.Context.main_arg1) = m ((c.tc : Thread Cert.Context.nD Cert.Context.τ).loc Cert.Context.main_arg1)
      ∧ r.2.mem ((c.tc : Thread Cert.Context.nD Cert.Context.τ).loc Cert.Context.main_arg2) = m ((c.tc : Thread Cert.Context.nD Cert.Context.τ).loc Cert.Context.main_arg2)
      ∧ r.2.mem ((c.tc : Thread Cert.Context.nD Cert.Context.τ).loc Cert.Context.main_arg3) = m ((c.tc : Thread Cert.Context.nD Cert.Context.τ).loc Cert.Context.main_arg3)
      ∧ r.2.mem ((c.tc : Thread Cert.Context.nD Cert.Context.τ).loc Cert.Context.main_arg4) = m ((c.tc : Thread Cert.Context.nD Cert.Context.τ).loc Cert.Context.main_arg4))
      ∧ r.2.sem = fun _ => 0)

def quiescent_ContextIdeal [hContextIdeal : Cert.ContextIdeal.Facts] : Prop :=
  ∀ (m : (ℓ : Loc Cert.ContextIdeal.nD Cert.ContextIdeal.τ Cert.ContextIdeal.sig) → Buf (Elt Ideal) ℓ) (g : Dev Cert.ContextIdeal.nD → PrngReg), Pre_ContextIdeal m →
    θ_run (Cert.ContextIdeal.defs (F := Ideal)) (onTc (τ := Cert.ContextIdeal.τ) (Cert.ContextIdeal.main (F := Ideal))) ⟨m, fun _ => 0, g⟩ (fun r => (∀ c : Dev Cert.ContextIdeal.nD,
      r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
      ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
      ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
      ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
      ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4))
      ∧ r.2.sem = fun _ => 0)

def quiescent_ContextRefIdeal [hContextRefIdeal : Cert.ContextRefIdeal.Facts] : Prop :=
  ∀ (m : (ℓ : Loc Cert.ContextRefIdeal.nD Cert.ContextRefIdeal.τ Cert.ContextRefIdeal.sig) → Buf (Elt Ideal) ℓ) (g : Dev Cert.ContextRefIdeal.nD → PrngReg), Pre_ContextRefIdeal m →
    θ_run (Cert.ContextRefIdeal.defs (F := Ideal)) (onTc (τ := Cert.ContextRefIdeal.τ) (Cert.ContextRefIdeal.main (F := Ideal))) ⟨m, fun _ => 0, g⟩ (fun r => (∀ c : Dev Cert.ContextRefIdeal.nD,
      r.2.mem ((c.tc : Thread Cert.ContextRefIdeal.nD Cert.ContextRefIdeal.τ).loc Cert.ContextRefIdeal.main_arg0) = m ((c.tc : Thread Cert.ContextRefIdeal.nD Cert.ContextRefIdeal.τ).loc Cert.ContextRefIdeal.main_arg0)
      ∧ r.2.mem ((c.tc : Thread Cert.ContextRefIdeal.nD Cert.ContextRefIdeal.τ).loc Cert.ContextRefIdeal.main_arg1) = m ((c.tc : Thread Cert.ContextRefIdeal.nD Cert.ContextRefIdeal.τ).loc Cert.ContextRefIdeal.main_arg1)
      ∧ r.2.mem ((c.tc : Thread Cert.ContextRefIdeal.nD Cert.ContextRefIdeal.τ).loc Cert.ContextRefIdeal.main_arg2) = m ((c.tc : Thread Cert.ContextRefIdeal.nD Cert.ContextRefIdeal.τ).loc Cert.ContextRefIdeal.main_arg2)
      ∧ r.2.mem ((c.tc : Thread Cert.ContextRefIdeal.nD Cert.ContextRefIdeal.τ).loc Cert.ContextRefIdeal.main_arg3) = m ((c.tc : Thread Cert.ContextRefIdeal.nD Cert.ContextRefIdeal.τ).loc Cert.ContextRefIdeal.main_arg3)
      ∧ r.2.mem ((c.tc : Thread Cert.ContextRefIdeal.nD Cert.ContextRefIdeal.τ).loc Cert.ContextRefIdeal.main_arg4) = m ((c.tc : Thread Cert.ContextRefIdeal.nD Cert.ContextRefIdeal.τ).loc Cert.ContextRefIdeal.main_arg4))
      ∧ r.2.sem = fun _ => 0)

def preserves_Kernel_KernelIdeal : Prop :=
  True

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v225) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v5) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v23) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)
      ∧ m' ((c.tc : Thread Cert.PostRefIdeal.nD Cert.PostRefIdeal.τ).loc Cert.PostRefIdeal.main_arg10) = m ((c.tc : Thread Cert.PostIdeal.nD Cert.PostIdeal.τ).loc Cert.PostIdeal.main_arg10)
      ∧ m' ((c.tc : Thread Cert.PostRefIdeal.nD Cert.PostRefIdeal.τ).loc Cert.PostRefIdeal.main_arg11) = m ((c.tc : Thread Cert.PostIdeal.nD Cert.PostIdeal.τ).loc Cert.PostIdeal.main_arg11)) →
    ∃ (v0 : (c : Dev Cert.PostIdeal.nD) → Buf (Elt Ideal) ((c.tc : Thread Cert.PostIdeal.nD Cert.PostIdeal.τ).loc Cert.PostIdeal.main_v17_0)) (v1 : (c : Dev Cert.PostIdeal.nD) → Buf (Elt Ideal) ((c.tc : Thread Cert.PostIdeal.nD Cert.PostIdeal.τ).loc Cert.PostIdeal.main_v17_1)) (v2 : (c : Dev Cert.PostIdeal.nD) → Buf (Elt Ideal) ((c.tc : Thread Cert.PostIdeal.nD Cert.PostIdeal.τ).loc Cert.PostIdeal.main_v17_2)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v17_0) = v0 c
          ∧ r.2.mem ((c.tc : Thread Cert.PostIdeal.nD Cert.PostIdeal.τ).loc Cert.PostIdeal.main_v17_1) = v1 c
          ∧ r.2.mem ((c.tc : Thread Cert.PostIdeal.nD Cert.PostIdeal.τ).loc Cert.PostIdeal.main_v17_2) = v2 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9)
          ∧ r.2.mem ((c.tc : Thread Cert.PostIdeal.nD Cert.PostIdeal.τ).loc Cert.PostIdeal.main_arg10) = m ((c.tc : Thread Cert.PostIdeal.nD Cert.PostIdeal.τ).loc Cert.PostIdeal.main_arg10)
          ∧ r.2.mem ((c.tc : Thread Cert.PostIdeal.nD Cert.PostIdeal.τ).loc Cert.PostIdeal.main_arg11) = m ((c.tc : Thread Cert.PostIdeal.nD Cert.PostIdeal.τ).loc Cert.PostIdeal.main_arg11))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v55) = v0 c
          ∧ r.2.mem ((c.tc : Thread Cert.PostRefIdeal.nD Cert.PostRefIdeal.τ).loc Cert.PostRefIdeal.main_v41) = v1 c
          ∧ r.2.mem ((c.tc : Thread Cert.PostRefIdeal.nD Cert.PostRefIdeal.τ).loc Cert.PostRefIdeal.main_v56) = v2 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9)
          ∧ r.2.mem ((c.tc : Thread Cert.PostRefIdeal.nD Cert.PostRefIdeal.τ).loc Cert.PostRefIdeal.main_arg10) = m' ((c.tc : Thread Cert.PostRefIdeal.nD Cert.PostRefIdeal.τ).loc Cert.PostRefIdeal.main_arg10)
          ∧ r.2.mem ((c.tc : Thread Cert.PostRefIdeal.nD Cert.PostRefIdeal.τ).loc Cert.PostRefIdeal.main_arg11) = m' ((c.tc : Thread Cert.PostRefIdeal.nD Cert.PostRefIdeal.τ).loc Cert.PostRefIdeal.main_arg11))

def preserves_Context_ContextIdeal : Prop :=
  True

def algebraic_ContextIdeal_ContextRefIdeal [hContextIdeal : Cert.ContextIdeal.Facts] [hContextRefIdeal : Cert.ContextRefIdeal.Facts] : Prop :=
  ∀ (m : (ℓ : Loc Cert.ContextIdeal.nD Cert.ContextIdeal.τ Cert.ContextIdeal.sig) → Buf (Elt Ideal) ℓ) (g : Dev Cert.ContextIdeal.nD → PrngReg)
    (m' : (ℓ : Loc Cert.ContextRefIdeal.nD Cert.ContextRefIdeal.τ Cert.ContextRefIdeal.sig) → Buf (Elt Ideal) ℓ) (g' : Dev Cert.ContextRefIdeal.nD → PrngReg), Pre_ContextIdeal m →
    (∀ c : Dev Cert.ContextIdeal.nD,
      m' ((c.tc : Thread Cert.ContextRefIdeal.nD Cert.ContextRefIdeal.τ).loc Cert.ContextRefIdeal.main_arg0) = m ((c.tc : Thread Cert.ContextIdeal.nD Cert.ContextIdeal.τ).loc Cert.ContextIdeal.main_arg0)
      ∧ m' ((c.tc : Thread Cert.ContextRefIdeal.nD Cert.ContextRefIdeal.τ).loc Cert.ContextRefIdeal.main_arg1) = m ((c.tc : Thread Cert.ContextIdeal.nD Cert.ContextIdeal.τ).loc Cert.ContextIdeal.main_arg1)
      ∧ m' ((c.tc : Thread Cert.ContextRefIdeal.nD Cert.ContextRefIdeal.τ).loc Cert.ContextRefIdeal.main_arg2) = m ((c.tc : Thread Cert.ContextIdeal.nD Cert.ContextIdeal.τ).loc Cert.ContextIdeal.main_arg2)
      ∧ m' ((c.tc : Thread Cert.ContextRefIdeal.nD Cert.ContextRefIdeal.τ).loc Cert.ContextRefIdeal.main_arg3) = m ((c.tc : Thread Cert.ContextIdeal.nD Cert.ContextIdeal.τ).loc Cert.ContextIdeal.main_arg3)
      ∧ m' ((c.tc : Thread Cert.ContextRefIdeal.nD Cert.ContextRefIdeal.τ).loc Cert.ContextRefIdeal.main_arg4) = m ((c.tc : Thread Cert.ContextIdeal.nD Cert.ContextIdeal.τ).loc Cert.ContextIdeal.main_arg4)) →
    ∃ (v0 : (c : Dev Cert.ContextIdeal.nD) → Buf (Elt Ideal) ((c.tc : Thread Cert.ContextIdeal.nD Cert.ContextIdeal.τ).loc Cert.ContextIdeal.main_v5)),
      θ_run (Cert.ContextIdeal.defs (F := Ideal)) (onTc (τ := Cert.ContextIdeal.τ) (Cert.ContextIdeal.main (F := Ideal))) ⟨m, fun _ => 0, g⟩ (fun r => ∀ c : Dev Cert.ContextIdeal.nD,
          r.2.mem ((c.tc : Thread Cert.ContextIdeal.nD Cert.ContextIdeal.τ).loc Cert.ContextIdeal.main_v5) = v0 c
          ∧ r.2.mem ((c.tc : Thread Cert.ContextIdeal.nD Cert.ContextIdeal.τ).loc Cert.ContextIdeal.main_arg0) = m ((c.tc : Thread Cert.ContextIdeal.nD Cert.ContextIdeal.τ).loc Cert.ContextIdeal.main_arg0)
          ∧ r.2.mem ((c.tc : Thread Cert.ContextIdeal.nD Cert.ContextIdeal.τ).loc Cert.ContextIdeal.main_arg1) = m ((c.tc : Thread Cert.ContextIdeal.nD Cert.ContextIdeal.τ).loc Cert.ContextIdeal.main_arg1)
          ∧ r.2.mem ((c.tc : Thread Cert.ContextIdeal.nD Cert.ContextIdeal.τ).loc Cert.ContextIdeal.main_arg2) = m ((c.tc : Thread Cert.ContextIdeal.nD Cert.ContextIdeal.τ).loc Cert.ContextIdeal.main_arg2)
          ∧ r.2.mem ((c.tc : Thread Cert.ContextIdeal.nD Cert.ContextIdeal.τ).loc Cert.ContextIdeal.main_arg3) = m ((c.tc : Thread Cert.ContextIdeal.nD Cert.ContextIdeal.τ).loc Cert.ContextIdeal.main_arg3)
          ∧ r.2.mem ((c.tc : Thread Cert.ContextIdeal.nD Cert.ContextIdeal.τ).loc Cert.ContextIdeal.main_arg4) = m ((c.tc : Thread Cert.ContextIdeal.nD Cert.ContextIdeal.τ).loc Cert.ContextIdeal.main_arg4))
      ∧ θ_run (Cert.ContextRefIdeal.defs (F := Ideal)) (onTc (τ := Cert.ContextRefIdeal.τ) (Cert.ContextRefIdeal.main (F := Ideal))) ⟨m', fun _ => 0, g'⟩ (fun r => ∀ c : Dev Cert.ContextRefIdeal.nD,
          r.2.mem ((c.tc : Thread Cert.ContextRefIdeal.nD Cert.ContextRefIdeal.τ).loc Cert.ContextRefIdeal.main_v24) = v0 c
          ∧ r.2.mem ((c.tc : Thread Cert.ContextRefIdeal.nD Cert.ContextRefIdeal.τ).loc Cert.ContextRefIdeal.main_arg0) = m' ((c.tc : Thread Cert.ContextRefIdeal.nD Cert.ContextRefIdeal.τ).loc Cert.ContextRefIdeal.main_arg0)
          ∧ r.2.mem ((c.tc : Thread Cert.ContextRefIdeal.nD Cert.ContextRefIdeal.τ).loc Cert.ContextRefIdeal.main_arg1) = m' ((c.tc : Thread Cert.ContextRefIdeal.nD Cert.ContextRefIdeal.τ).loc Cert.ContextRefIdeal.main_arg1)
          ∧ r.2.mem ((c.tc : Thread Cert.ContextRefIdeal.nD Cert.ContextRefIdeal.τ).loc Cert.ContextRefIdeal.main_arg2) = m' ((c.tc : Thread Cert.ContextRefIdeal.nD Cert.ContextRefIdeal.τ).loc Cert.ContextRefIdeal.main_arg2)
          ∧ r.2.mem ((c.tc : Thread Cert.ContextRefIdeal.nD Cert.ContextRefIdeal.τ).loc Cert.ContextRefIdeal.main_arg3) = m' ((c.tc : Thread Cert.ContextRefIdeal.nD Cert.ContextRefIdeal.τ).loc Cert.ContextRefIdeal.main_arg3)
          ∧ r.2.mem ((c.tc : Thread Cert.ContextRefIdeal.nD Cert.ContextRefIdeal.τ).loc Cert.ContextRefIdeal.main_arg4) = m' ((c.tc : Thread Cert.ContextRefIdeal.nD Cert.ContextRefIdeal.τ).loc Cert.ContextRefIdeal.main_arg4))

def Claim : Prop :=
  ∃ (hKernel : Cert.Kernel.Facts) (hKernelIdeal : Cert.KernelIdeal.Facts) (hReferenceIdeal : Cert.ReferenceIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hPost : Cert.Post.Facts) (hPostIdeal : Cert.PostIdeal.Facts) (hPostRefIdeal : Cert.PostRefIdeal.Facts) (hContext : Cert.Context.Facts) (hContextIdeal : Cert.ContextIdeal.Facts) (hContextRefIdeal : Cert.ContextRefIdeal.Facts) (hPre_finite_qkv : Cert.Pre_finite_qkv.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Post (hPost := hPost)
    ∧ quiescent_PostIdeal (hPostIdeal := hPostIdeal)
    ∧ quiescent_PostRefIdeal (hPostRefIdeal := hPostRefIdeal)
    ∧ quiescent_Context (hContext := hContext)
    ∧ quiescent_ContextIdeal (hContextIdeal := hContextIdeal)
    ∧ quiescent_ContextRefIdeal (hContextRefIdeal := hContextRefIdeal)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Post_PostIdeal
    ∧ algebraic_PostIdeal_PostRefIdeal (hPostIdeal := hPostIdeal) (hPostRefIdeal := hPostRefIdeal)
    ∧ preserves_Context_ContextIdeal
    ∧ algebraic_ContextIdeal_ContextRefIdeal (hContextIdeal := hContextIdeal) (hContextRefIdeal := hContextRefIdeal)
-- ==== Pre_finite_qkv.lean ====
abbrev S16x2048x14336 : Shape := ⟨3, ![16, 2048, 14336]⟩
abbrev S16x256x4096 : Shape := ⟨3, ![16, 256, 4096]⟩
abbrev S1x2x8 : Shape := ⟨3, ![1, 2, 8]⟩
abbrev S16x2048x6144 : Shape := ⟨3, ![16, 2048, 6144]⟩
abbrev S_ : Shape := ⟨0, ![]⟩

class Facts : Prop where
  slices_S16x2048x14336_S16x2048x6144_0_0_0 : S16x2048x14336.Slices ![0, 0, 0] S16x2048x6144
  bitsLt_bf16_f32 : FTy.bits .bf16 < FTy.bits .f32
  bcast_S_S16x2048x6144 : S_.BroadcastsInDim S16x2048x6144 (![] : Fin 0 → Fin S16x2048x6144.rank)
  bcast_S_S16x256x4096 : S_.BroadcastsInDim S16x256x4096 (![] : Fin 0 → Fin S16x256x4096.rank)

variable [Facts]

def fn {F : FTy → Type} [FloatOps F] (main_arg0 : FVec F S16x2048x14336 .bf16) (main_arg1 : FVec F S16x256x4096 .bf16) (main_arg2 : FVec F S1x2x8 .f32) : IVec S16x2048x6144 1 × IVec S16x256x4096 1 :=
  let main_v0 : FVec F S16x2048x6144 .bf16 := (extractStridedSlice S16x2048x6144 ![0, 0, 0] · slices_S16x2048x14336_S16x2048x6144_0_0_0) main_arg0
  let main_v1 : FVec F S16x2048x6144 .f32 := (extf .f32 · bitsLt_bf16_f32) main_v0
  let main_v2 : FVec F S16x2048x6144 .f32 := Host.absf main_v1
  let main_cst : FVec F S_ .f32 := constant S_ .f32 0x7F800000#32
  let main_v3 : FVec F S16x2048x6144 .f32 := broadcastInDim S16x2048x6144 ![] bcast_S_S16x2048x6144 main_cst
  let main_v4 : IVec S16x2048x6144 1 := cmpf .olt main_v2 main_v3
  let main_v5 : FVec F S16x256x4096 .f32 := (extf .f32 · bitsLt_bf16_f32) main_arg1
  let main_v6 : FVec F S16x256x4096 .f32 := Host.absf main_v5
  let main_cst_0 : FVec F S_ .f32 := constant S_ .f32 0x7F800000#32
  let main_v7 : FVec F S16x256x4096 .f32 := broadcastInDim S16x256x4096 ![] bcast_S_S16x256x4096 main_cst_0
  let main_v8 : IVec S16x256x4096 1 := cmpf .olt main_v6 main_v7
  (main_v4, main_v8)
-- ==== Kernel.lean ====
abbrev S16x2048x14336 : Shape := ⟨3, ![16, 2048, 14336]⟩
abbrev S16x256x4096 : Shape := ⟨3, ![16, 256, 4096]⟩
abbrev S1x2x8 : Shape := ⟨3, ![1, 2, 8]⟩
abbrev S2x8 : Shape := ⟨2, ![2, 8]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x256 : Shape := ⟨2, ![2048, 256]⟩
abbrev S16x2048x2048 : Shape := ⟨3, ![16, 2048, 2048]⟩
abbrev S1x2048x256 : Shape := ⟨3, ![1, 2048, 256]⟩
abbrev S1x256x256 : Shape := ⟨3, ![1, 256, 256]⟩
abbrev S256x256 : Shape := ⟨2, ![256, 256]⟩
abbrev S1x1 : Shape := ⟨2, ![1, 1]⟩
abbrev S2048x128 : Shape := ⟨2, ![2048, 128]⟩
abbrev S1x256 : Shape := ⟨2, ![1, 256]⟩

abbrev nBuf : Space → Nat
  | .hbm => 80
  | .vmem => 26
  | .smem => 1
  | _ => 0

abbrev bufTy : (tb : Table) → Fin (tcTables nBuf tb) → BufTy
  | .hbm, ⟨0, _⟩ => ⟨S16x2048x14336, .bf16⟩
  | .hbm, ⟨1, _⟩ => ⟨S16x256x4096, .bf16⟩
  | .hbm, ⟨2, _⟩ => ⟨S1x2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S2048, .i32⟩
  | .hbm, ⟨15, _⟩ => ⟨S_, .i32⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S2048, .i32⟩
  | .hbm, ⟨20, _⟩ => ⟨S_, .i32⟩
  | .hbm, ⟨21, _⟩ => ⟨S2048, .i32⟩
  | .hbm, ⟨22, _⟩ => ⟨S2048, .i1⟩
  | .hbm, ⟨23, _⟩ => ⟨S2048, .i32⟩
  | .hbm, ⟨24, _⟩ => ⟨S2048, .i32⟩
  | .hbm, ⟨25, _⟩ => ⟨S_, .i32⟩
  | .hbm, ⟨26, _⟩ => ⟨S2048, .i32⟩
  | .hbm, ⟨27, _⟩ => ⟨S2048, .i1⟩
  | .hbm, ⟨28, _⟩ => ⟨S2048, .i1⟩
  | .hbm, ⟨29, _⟩ => ⟨S_, .i32⟩
  | .hbm, ⟨30, _⟩ => ⟨S2048, .i32⟩
  | .hbm, ⟨31, _⟩ => ⟨S2048, .i32⟩
  | .hbm, ⟨32, _⟩ => ⟨S2048, .i32⟩
  | .hbm, ⟨33, _⟩ => ⟨S2048, .f32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S_, .i32⟩
  | .hbm, ⟨46, _⟩ => ⟨S2048, .i32⟩
  | .hbm, ⟨47, _⟩ => ⟨S2048, .i1⟩
  | .hbm, ⟨48, _⟩ => ⟨S_, .i32⟩
  | .hbm, ⟨49, _⟩ => ⟨S_, .i1⟩
  | .hbm, ⟨50, _⟩ => ⟨S2048, .i1⟩
  | .hbm, ⟨51, _⟩ => ⟨S2048, .i1⟩
  | .hbm, ⟨52, _⟩ => ⟨S2048, .i1⟩
  | .hbm, ⟨53, _⟩ => ⟨S2048, .i32⟩
  | .hbm, ⟨54, _⟩ => ⟨S2048, .i32⟩
  | .hbm, ⟨55, _⟩ => ⟨S2048, .i32⟩
  | .hbm, ⟨56, _⟩ => ⟨S2048, .f32⟩
  | .hbm, ⟨57, _⟩ => ⟨S2048x1, .f32⟩
  | .hbm, ⟨58, _⟩ => ⟨S1x64, .f32⟩
  | .hbm, ⟨59, _⟩ => ⟨S2048x64, .f32⟩
  | .hbm, ⟨60, _⟩ => ⟨S2048x64, .f32⟩
  | .hbm, ⟨61, _⟩ => ⟨S2048x64, .f32⟩
  | .hbm, ⟨62, _⟩ => ⟨S2048x1, .f32⟩
  | .hbm, ⟨63, _⟩ => ⟨S1x64, .f32⟩
  | .hbm, ⟨64, _⟩ => ⟨S2048x64, .f32⟩
  | .hbm, ⟨65, _⟩ => ⟨S2048x64, .f32⟩
  | .hbm, ⟨66, _⟩ => ⟨S2048x64, .f32⟩
  | .hbm, ⟨67, _⟩ => ⟨S2048x64, .f32⟩
  | .hbm, ⟨68, _⟩ => ⟨S2048x64, .f32⟩
  | .hbm, ⟨69, _⟩ => ⟨S2048x64, .f32⟩
  | .hbm, ⟨70, _⟩ => ⟨S2048x64, .f32⟩
  | .hbm, ⟨71, _⟩ => ⟨S2048x256, .f32⟩
  | .hbm, ⟨72, _⟩ => ⟨S2048x64, .f32⟩
  | .hbm, ⟨73, _⟩ => ⟨S2048x64, .f32⟩
  | .hbm, ⟨74, _⟩ => ⟨S2048x64, .f32⟩
  | .hbm, ⟨75, _⟩ => ⟨S2048x64, .f32⟩
  | .hbm, ⟨76, _⟩ => ⟨S2048x64, .f32⟩
  | .hbm, ⟨77, _⟩ => ⟨S2048x64, .f32⟩
  | .hbm, ⟨78, _⟩ => ⟨S2048x256, .f32⟩
  | .hbm, ⟨79, _⟩ => ⟨S16x2048x2048, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x256, .bf16⟩
  | .local _ .vmem, ⟨11, _⟩ => ⟨S1x256x256, .bf16⟩
  | .local _ .vmem, ⟨12, _⟩ => ⟨S2048x256, .f32⟩
  | .local _ .vmem, ⟨13, _⟩ => ⟨S2048x256, .f32⟩
  | .local _ .vmem, ⟨14, _⟩ => ⟨S1x2048x256, .bf16⟩
  | .local _ .vmem, ⟨15, _⟩ => ⟨S1x2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x256, .f32⟩
  | .local _ .vmem, ⟨25, _⟩ => ⟨S256x256, .f32⟩
  | .local _ .smem, ⟨0, _⟩ => ⟨S2x8, .f32⟩
  | _, _ => ⟨S16x2048x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v10 : Ref sig .tc := ⟨.hbm, 32, rfl⟩
abbrev main_v11 : Ref sig .tc := ⟨.hbm, 33, rfl⟩
abbrev main_c_1 : Ref sig .tc := ⟨.hbm, 34, rfl⟩
abbrev main_call1_v0 : Ref sig .tc := ⟨.hbm, 35, rfl⟩
abbrev main_call1_c : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_c_1 : Ref sig .tc := ⟨.hbm, 42, rfl⟩
abbrev main_call1_v5 : Ref sig .tc := ⟨.hbm, 43, rfl⟩
abbrev main_call1_v6 : Ref sig .tc := ⟨.hbm, 44, rfl⟩
abbrev main_call1_c_2 : Ref sig .tc := ⟨.hbm, 45, rfl⟩
abbrev main_call1_v7 : Ref sig .tc := ⟨.hbm, 46, rfl⟩
abbrev main_call1_v8 : Ref sig .tc := ⟨.hbm, 47, rfl⟩
abbrev main_call1_c_3 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 8], ![false, false]⟩

def k0_off1 (i : grid0.Coords) : Fin 2 → Nat :=
  let c0 : Index := 0#32
  let arg1 : BitVec 32 := BitVec.ofNat 32 (i 1).val
  let v0 : Index := Scalar.indexCast arg1
  ![0, v0.toNat]
def k0_off2 (i : grid0.Coords) : Fin 2 → Nat :=
  let c1 : Index := 1#32
  let arg1 : BitVec 32 := BitVec.ofNat 32 (i 1).val
  let v2 : Index := Scalar.indexCast arg1
  ![1, v2.toNat]
@[reducible] def k0_t1_loop : Scf.Loop 32 :=
  let c0_i32 : BitVec 32 := 0#32
  let c8_i32 : BitVec 32 := 8#32
  let v135 : BitVec 32 := Scalar.addi c0_i32 c8_i32
  let c1_i32 : BitVec 32 := 1#32
  ⟨c0_i32, v135, c1_i32⟩
def k0_mult1 (k0_t1 : Fin k0_t1_loop.trips) : BitVec 32 :=
  let c0_i32 : BitVec 32 := 0#32
  let c1_i32 : BitVec 32 := 1#32
  let arg22 : BitVec 32 := Scf.iv c0_i32 c1_i32 k0_t1
  let c256_i32 : BitVec 32 := 256#32
  let v164 : BitVec 32 := Scalar.muli arg22 c256_i32
  v164
def k0_off3 (k0_t1 : Fin k0_t1_loop.trips) : Fin 2 → Nat :=
  let c0_i32 : BitVec 32 := 0#32
  let c1_i32 : BitVec 32 := 1#32
  let arg22 : BitVec 32 := Scf.iv c0_i32 c1_i32 k0_t1
  let c256_i32 : BitVec 32 := 256#32
  let v164 : BitVec 32 := Scalar.muli arg22 c256_i32
  let v165 : BitVec 32 := v164
  let v166 : Index := Scalar.indexCast v165
  let c0_77 : Index := 0#32
  ![v166.toNat, 0]
def k0_off4 (k0_t1 : Fin k0_t1_loop.trips) : Fin 3 → Nat :=
  let c0_79 : Index := 0#32
  let c0_i32 : BitVec 32 := 0#32
  let c1_i32 : BitVec 32 := 1#32
  let arg22 : BitVec 32 := Scf.iv c0_i32 c1_i32 k0_t1
  let c256_i32 : BitVec 32 := 256#32
  let v164 : BitVec 32 := Scalar.muli arg22 c256_i32
  let v165 : BitVec 32 := v164
  let v170 : Index := Scalar.indexCast v165
  let c0_80 : Index := 0#32
  ![0, v170.toNat, 0]
@[reducible] def k0_t2_loop : Scf.Loop 32 :=
  let c0_i32_59 : BitVec 32 := 0#32
  let c8_i32_60 : BitVec 32 := 8#32
  let v136 : BitVec 32 := Scalar.addi c0_i32_59 c8_i32_60
  let c1_i32_61 : BitVec 32 := 1#32
  ⟨c0_i32_59, v136, c1_i32_61⟩
def k0_mult2 (k0_t2 : Fin k0_t2_loop.trips) : BitVec 32 :=
  let c7_i32 : BitVec 32 := 7#32
  let c0_i32_59 : BitVec 32 := 0#32
  let c1_i32_61 : BitVec 32 := 1#32
  let arg22 : BitVec 32 := Scf.iv c0_i32_59 c1_i32_61 k0_t2
  let v164 : BitVec 32 := Scalar.subi c7_i32 arg22
  let c256_i32 : BitVec 32 := 256#32
  let v165 : BitVec 32 := Scalar.muli v164 c256_i32
  v165
def k0_off5 (k0_t2 : Fin k0_t2_loop.trips) : Fin 2 → Nat :=
  let c7_i32 : BitVec 32 := 7#32
  let c0_i32_59 : BitVec 32 := 0#32
  let c1_i32_61 : BitVec 32 := 1#32
  let arg22 : BitVec 32 := Scf.iv c0_i32_59 c1_i32_61 k0_t2
  let v164 : BitVec 32 := Scalar.subi c7_i32 arg22
  let c256_i32 : BitVec 32 := 256#32
  let v165 : BitVec 32 := Scalar.muli v164 c256_i32
  let v166 : BitVec 32 := v165
  let v167 : Index := Scalar.indexCast v166
  let c0_77 : Index := 0#32
  ![v167.toNat, 0]
def k0_off6 (k0_t2 : Fin k0_t2_loop.trips) : Fin 3 → Nat :=
  let c0_79 : Index := 0#32
  let c7_i32 : BitVec 32 := 7#32
  let c0_i32_59 : BitVec 32 := 0#32
  let c1_i32_61 : BitVec 32 := 1#32
  let arg22 : BitVec 32 := Scf.iv c0_i32_59 c1_i32_61 k0_t2
  let v164 : BitVec 32 := Scalar.subi c7_i32 arg22
  let c256_i32 : BitVec 32 := 256#32
  let v165 : BitVec 32 := Scalar.muli v164 c256_i32
  let v166 : BitVec 32 := v165
  let v171 : Index := Scalar.indexCast v166
  let c0_80 : Index := 0#32
  ![0, v171.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2048x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16x2048x14336 : Shape := ⟨3, ![16, 2048, 14336]⟩
abbrev S16x256x4096 : Shape := ⟨3, ![16, 256, 4096]⟩
abbrev S1x2x8 : Shape := ⟨3, ![1, 2, 8]⟩
abbrev S2x8 : Shape := ⟨2, ![2, 8]⟩
abbrev S16x256x2048 : Shape := ⟨3, ![16, 256, 2048]⟩
abbrev S16x256x8x256 : Shape := ⟨4, ![16, 256, 8, 256]⟩
abbrev S16x8x256x256 : Shape := ⟨4, ![16, 8, 256, 256]⟩
abbrev S_ : Shape := ⟨0, ![]⟩
abbrev S16x2048x2048 : Shape := ⟨3, ![16, 2048, 2048]⟩
abbrev S16x2048x8x256 : Shape := ⟨4, ![16, 2048, 8, 256]⟩
abbrev S16x8x2048x256 : Shape := ⟨4, ![16, 8, 2048, 256]⟩
abbrev S2048 : Shape := ⟨1, ![2048]⟩
abbrev S64 : Shape := ⟨1, ![64]⟩
abbrev S16x8x2048x128 : Shape := ⟨4, ![16, 8, 2048, 128]⟩
abbrev S2048x1 : Shape := ⟨2, ![2048, 1]⟩
abbrev S1x64 : Shape := ⟨2, ![1, 64]⟩
abbrev S2048x64 : Shape := ⟨2, ![2048, 64]⟩
abbrev S16x8x2048x64 : Shape := ⟨4, ![16, 8, 2048, 64]⟩
abbrev S1x1x2048x64 : Shape := ⟨4, ![1, 1, 2048, 64]⟩
abbrev S16 : Shape := ⟨1, ![16]⟩
abbrev S16x16x256x256 : Shape := ⟨4, ![16, 16, 256, 256]⟩
abbrev S16x1 : Shape := ⟨2, ![16, 1]⟩
abbrev S256 : Shape := ⟨1, ![256]⟩
abbrev S1x256 : Shape := ⟨2, ![1, 256]⟩
abbrev S16x256 : Shape := ⟨2, ![16, 256]⟩
abbrev S1x16x256x1 : Shape := ⟨4, ![1, 16, 256, 1]⟩
abbrev S16x16x2048x256 : Shape := ⟨4, ![16, 16, 2048, 256]⟩
abbrev S1x2048 : Shape := ⟨2, ![1, 2048]⟩
abbrev S2048x2048 : Shape := ⟨2, ![2048, 2048]⟩
abbrev S16x1x1 : Shape := ⟨3, ![16, 1, 1]⟩
abbrev S1x2048x2048 : Shape := ⟨3, ![1, 2048, 2048]⟩
abbrev S16x2048 : Shape := ⟨2, ![16, 2048]⟩
abbrev S1x16x2048x1 : Shape := ⟨4, ![1, 16, 2048, 1]⟩
abbrev S16x16x2048x2048 : Shape := ⟨4, ![16, 16, 2048, 2048]⟩
abbrev S1x16x2048x2048 : Shape := ⟨4, ![1, 16, 2048, 2048]⟩
abbrev S16x8x2048 : Shape := ⟨3, ![16, 8, 2048]⟩
abbrev S16x8x2048x1 : Shape := ⟨4, ![16, 8, 2048, 1]⟩

abbrev nBuf : Space → Nat
  | .hbm => 292
  | .vmem => 0
  | .smem => 0
  | _ => 0

abbrev hbmTy0_0 (i : Nat) : BufTy := match i % 128 with
  | 0 => ⟨S16x2048x14336, .bf16⟩
  | 1 => ⟨S16x256x4096, .bf16⟩
  | 2 => ⟨S1x2x8, .f32⟩
  | 3 => ⟨S2x8, .f32⟩
  | 4 => ⟨S2x8, .f32⟩
  | 5 => ⟨S2x8, .f32⟩
  | 6 => ⟨S16x256x2048, .bf16⟩
  | 7 => ⟨S16x256x8x256, .bf16⟩
  | 8 => ⟨S16x8x256x256, .bf16⟩
  | 9 => ⟨S16x8x256x256, .f32⟩
  | 10 => ⟨S_, .f32⟩
  | 11 => ⟨S16x8x256x256, .f32⟩
  | 12 => ⟨S16x8x256x256, .f32⟩
  | 13 => ⟨S16x256x2048, .bf16⟩
  | 14 => ⟨S16x256x8x256, .bf16⟩
  | 15 => ⟨S16x8x256x256, .bf16⟩
  | 16 => ⟨S16x8x256x256, .f32⟩
  | 17 => ⟨S16x2048x2048, .bf16⟩
  | 18 => ⟨S16x2048x8x256, .bf16⟩
  | 19 => ⟨S16x8x2048x256, .bf16⟩
  | 20 => ⟨S16x8x2048x256, .f32⟩
  | 21 => ⟨S16x2048x2048, .bf16⟩
  | 22 => ⟨S16x2048x8x256, .bf16⟩
  | 23 => ⟨S16x8x2048x256, .bf16⟩
  | 24 => ⟨S16x8x2048x256, .f32⟩
  | 25 => ⟨S_, .f32⟩
  | 26 => ⟨S16x8x2048x256, .f32⟩
  | 27 => ⟨S16x8x2048x256, .f32⟩
  | 28 => ⟨S16x2048x2048, .bf16⟩
  | 29 => ⟨S16x2048x8x256, .bf16⟩
  | 30 => ⟨S16x8x2048x256, .bf16⟩
  | 31 => ⟨S16x8x2048x256, .f32⟩
  | 32 => ⟨S2048, .i32⟩
  | 33 => ⟨S_, .i32⟩
  | 34 => ⟨S_, .i32⟩
  | 35 => ⟨S2048, .i32⟩
  | 36 => ⟨S2048, .i32⟩
  | 37 => ⟨S2048, .i32⟩
  | 38 => ⟨S_, .i32⟩
  | 39 => ⟨S2048, .i32⟩
  | 40 => ⟨S2048, .i1⟩
  | 41 => ⟨S2048, .i32⟩
  | 42 => ⟨S2048, .i32⟩
  | 43 => ⟨S_, .i32⟩
  | 44 => ⟨S2048, .i32⟩
  | 45 => ⟨S2048, .i1⟩
  | 46 => ⟨S2048, .i1⟩
  | 47 => ⟨S_, .i32⟩
  | 48 => ⟨S2048, .i32⟩
  | 49 => ⟨S2048, .i32⟩
  | 50 => ⟨S2048, .i32⟩
  | 51 => ⟨S2048, .f32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S2048, .i32⟩
  | 59 => ⟨S2048, .i32⟩
  | 60 => ⟨S_, .i32⟩
  | 61 => ⟨S2048, .i32⟩
  | 62 => ⟨S2048, .i1⟩
  | 63 => ⟨S_, .i32⟩
  | 64 => ⟨S2048, .i32⟩
  | 65 => ⟨S2048, .i1⟩
  | 66 => ⟨S_, .i32⟩
  | 67 => ⟨S_, .i1⟩
  | 68 => ⟨S2048, .i1⟩
  | 69 => ⟨S2048, .i1⟩
  | 70 => ⟨S2048, .i1⟩
  | 71 => ⟨S2048, .i32⟩
  | 72 => ⟨S2048, .i32⟩
  | 73 => ⟨S2048, .i32⟩
  | 74 => ⟨S2048, .f32⟩
  | 75 => ⟨S64, .f32⟩
  | 76 => ⟨S64, .f32⟩
  | 77 => ⟨S_, .f32⟩
  | 78 => ⟨S64, .f32⟩
  | 79 => ⟨S64, .f32⟩
  | 80 => ⟨S_, .f32⟩
  | 81 => ⟨S64, .f32⟩
  | 82 => ⟨S64, .f32⟩
  | 83 => ⟨S16x8x2048x128, .f32⟩
  | 84 => ⟨S2048x1, .f32⟩
  | 85 => ⟨S1x64, .f32⟩
  | 86 => ⟨S2048x64, .f32⟩
  | 87 => ⟨S2048x64, .f32⟩
  | 88 => ⟨S2048x64, .f32⟩
  | 89 => ⟨S2048x64, .f32⟩
  | 90 => ⟨S2048x64, .f32⟩
  | 91 => ⟨S16x8x2048x64, .f32⟩
  | 92 => ⟨S16x8x2048x64, .f32⟩
  | 93 => ⟨S1x1x2048x64, .f32⟩
  | 94 => ⟨S16x8x2048x64, .f32⟩
  | 95 => ⟨S16x8x2048x64, .f32⟩
  | 96 => ⟨S1x1x2048x64, .f32⟩
  | 97 => ⟨S16x8x2048x64, .f32⟩
  | 98 => ⟨S16x8x2048x64, .f32⟩
  | 99 => ⟨S16x8x2048x64, .f32⟩
  | 100 => ⟨S1x1x2048x64, .f32⟩
  | 101 => ⟨S16x8x2048x64, .f32⟩
  | 102 => ⟨S16x8x2048x64, .f32⟩
  | 103 => ⟨S1x1x2048x64, .f32⟩
  | 104 => ⟨S16x8x2048x64, .f32⟩
  | 105 => ⟨S16x8x2048x64, .f32⟩
  | 106 => ⟨S16x8x2048x64, .f32⟩
  | 107 => ⟨S16x8x2048x128, .f32⟩
  | 108 => ⟨S16x8x2048x128, .f32⟩
  | 109 => ⟨S2048x1, .f32⟩
  | 110 => ⟨S1x64, .f32⟩
  | 111 => ⟨S2048x64, .f32⟩
  | 112 => ⟨S2048x64, .f32⟩
  | 113 => ⟨S2048x64, .f32⟩
  | 114 => ⟨S2048x64, .f32⟩
  | 115 => ⟨S2048x64, .f32⟩
  | 116 => ⟨S16x8x2048x64, .f32⟩
  | 117 => ⟨S16x8x2048x64, .f32⟩
  | 118 => ⟨S1x1x2048x64, .f32⟩
  | 119 => ⟨S16x8x2048x64, .f32⟩
  | 120 => ⟨S16x8x2048x64, .f32⟩
  | 121 => ⟨S1x1x2048x64, .f32⟩
  | 122 => ⟨S16x8x2048x64, .f32⟩
  | 123 => ⟨S16x8x2048x64, .f32⟩
  | 124 => ⟨S16x8x2048x64, .f32⟩
  | 125 => ⟨S1x1x2048x64, .f32⟩
  | 126 => ⟨S16x8x2048x64, .f32⟩
  | 127 => ⟨S16x8x2048x64, .f32⟩
  | _ => ⟨S16x2048x14336, .bf16⟩

abbrev hbmTy0_1 (i : Nat) : BufTy := match i % 128 with
  | 0 => ⟨S1x1x2048x64, .f32⟩
  | 1 => ⟨S16x8x2048x64, .f32⟩
  | 2 => ⟨S16x8x2048x64, .f32⟩
  | 3 => ⟨S16x8x2048x64, .f32⟩
  | 4 => ⟨S16x8x2048x128, .f32⟩
  | 5 => ⟨S16x8x2048x256, .f32⟩
  | 6 => ⟨S64, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S16x8x2048x128, .f32⟩
  | 15 => ⟨S2048x1, .f32⟩
  | 16 => ⟨S1x64, .f32⟩
  | 17 => ⟨S2048x64, .f32⟩
  | 18 => ⟨S2048x64, .f32⟩
  | 19 => ⟨S2048x64, .f32⟩
  | 20 => ⟨S2048x64, .f32⟩
  | 21 => ⟨S2048x64, .f32⟩
  | 22 => ⟨S16x8x2048x64, .f32⟩
  | 23 => ⟨S16x8x2048x64, .f32⟩
  | 24 => ⟨S1x1x2048x64, .f32⟩
  | 25 => ⟨S16x8x2048x64, .f32⟩
  | 26 => ⟨S16x8x2048x64, .f32⟩
  | 27 => ⟨S1x1x2048x64, .f32⟩
  | 28 => ⟨S16x8x2048x64, .f32⟩
  | 29 => ⟨S16x8x2048x64, .f32⟩
  | 30 => ⟨S16x8x2048x64, .f32⟩
  | 31 => ⟨S1x1x2048x64, .f32⟩
  | 32 => ⟨S16x8x2048x64, .f32⟩
  | 33 => ⟨S16x8x2048x64, .f32⟩
  | 34 => ⟨S1x1x2048x64, .f32⟩
  | 35 => ⟨S16x8x2048x64, .f32⟩
  | 36 => ⟨S16x8x2048x64, .f32⟩
  | 37 => ⟨S16x8x2048x64, .f32⟩
  | 38 => ⟨S16x8x2048x128, .f32⟩
  | 39 => ⟨S16x8x2048x128, .f32⟩
  | 40 => ⟨S2048x1, .f32⟩
  | 41 => ⟨S1x64, .f32⟩
  | 42 => ⟨S2048x64, .f32⟩
  | 43 => ⟨S2048x64, .f32⟩
  | 44 => ⟨S2048x64, .f32⟩
  | 45 => ⟨S2048x64, .f32⟩
  | 46 => ⟨S2048x64, .f32⟩
  | 47 => ⟨S16x8x2048x64, .f32⟩
  | 48 => ⟨S16x8x2048x64, .f32⟩
  | 49 => ⟨S1x1x2048x64, .f32⟩
  | 50 => ⟨S16x8x2048x64, .f32⟩
  | 51 => ⟨S16x8x2048x64, .f32⟩
  | 52 => ⟨S1x1x2048x64, .f32⟩
  | 53 => ⟨S16x8x2048x64, .f32⟩
  | 54 => ⟨S16x8x2048x64, .f32⟩
  | 55 => ⟨S16x8x2048x64, .f32⟩
  | 56 => ⟨S1x1x2048x64, .f32⟩
  | 57 => ⟨S16x8x2048x64, .f32⟩
  | 58 => ⟨S16x8x2048x64, .f32⟩
  | 59 => ⟨S1x1x2048x64, .f32⟩
  | 60 => ⟨S16x8x2048x64, .f32⟩
  | 61 => ⟨S16x8x2048x64, .f32⟩
  | 62 => ⟨S16x8x2048x64, .f32⟩
  | 63 => ⟨S16x8x2048x128, .f32⟩
  | 64 => ⟨S16x8x2048x256, .f32⟩
  | 65 => ⟨S16x2048x2048, .bf16⟩
  | 66 => ⟨S16, .f32⟩
  | 67 => ⟨S16x8x256x256, .f32⟩
  | 68 => ⟨S16x16x256x256, .f32⟩
  | 69 => ⟨S16x8x256x256, .f32⟩
  | 70 => ⟨S16x16x256x256, .f32⟩
  | 71 => ⟨S16x1, .f32⟩
  | 72 => ⟨S256, .f32⟩
  | 73 => ⟨S_, .f32⟩
  | 74 => ⟨S256, .f32⟩
  | 75 => ⟨S256, .f32⟩
  | 76 => ⟨S1x256, .f32⟩
  | 77 => ⟨S16x256, .f32⟩
  | 78 => ⟨S16x256, .f32⟩
  | 79 => ⟨S16x256, .f32⟩
  | 80 => ⟨S16x256, .f32⟩
  | 81 => ⟨S1x16x256x1, .f32⟩
  | 82 => ⟨S16x16x256x256, .f32⟩
  | 83 => ⟨S16x16x256x256, .f32⟩
  | 84 => ⟨S16x16x256x256, .f32⟩
  | 85 => ⟨S16x8x2048x256, .f32⟩
  | 86 => ⟨S16x16x2048x256, .f32⟩
  | 87 => ⟨S16x8x2048x256, .f32⟩
  | 88 => ⟨S16x16x2048x256, .f32⟩
  | 89 => ⟨S16x8x2048x256, .f32⟩
  | 90 => ⟨S16x16x2048x256, .f32⟩
  | 91 => ⟨S2048, .f32⟩
  | 92 => ⟨S2048x1, .f32⟩
  | 93 => ⟨S1x2048, .f32⟩
  | 94 => ⟨S2048x2048, .f32⟩
  | 95 => ⟨S2048x2048, .f32⟩
  | 96 => ⟨S2048x2048, .f32⟩
  | 97 => ⟨S_, .f32⟩
  | 98 => ⟨S2048x2048, .f32⟩
  | 99 => ⟨S2048x2048, .i1⟩
  | 100 => ⟨S16x1x1, .f32⟩
  | 101 => ⟨S_, .f32⟩
  | 102 => ⟨S2048x2048, .f32⟩
  | 103 => ⟨S2048x2048, .f32⟩
  | 104 => ⟨S1x2048x2048, .f32⟩
  | 105 => ⟨S16x2048x2048, .f32⟩
  | 106 => ⟨S16x2048x2048, .f32⟩
  | 107 => ⟨S16x2048x2048, .f32⟩
  | 108 => ⟨S16x2048x2048, .f32⟩
  | 109 => ⟨S_, .f32⟩
  | 110 => ⟨S_, .f32⟩
  | 111 => ⟨S16x2048x2048, .i1⟩
  | 112 => ⟨S16x2048x2048, .f32⟩
  | 113 => ⟨S16x2048x2048, .f32⟩
  | 114 => ⟨S16x1, .f32⟩
  | 115 => ⟨S_, .f32⟩
  | 116 => ⟨S2048, .f32⟩
  | 117 => ⟨S2048, .f32⟩
  | 118 => ⟨S1x2048, .f32⟩
  | 119 => ⟨S16x2048, .f32⟩
  | 120 => ⟨S16x2048, .f32⟩
  | 121 => ⟨S16x2048, .f32⟩
  | 122 => ⟨S16x2048, .f32⟩
  | 123 => ⟨S1x16x2048x1, .f32⟩
  | 124 => ⟨S16x16x2048x2048, .f32⟩
  | 125 => ⟨S1x16x2048x2048, .f32⟩
  | 126 => ⟨S16x16x2048x2048, .f32⟩
  | 127 => ⟨S16x16x2048x2048, .f32⟩
  | _ => ⟨S16x2048x14336, .bf16⟩

abbrev hbmTy0_2 (i : Nat) : BufTy := match i % 128 with
  | 0 => ⟨S16x16x2048x256, .f32⟩
  | 1 => ⟨S16x16x2048x256, .f32⟩
  | 2 => ⟨S16x16x2048x256, .f32⟩
  | 3 => ⟨S16x16x2048x256, .f32⟩
  | 4 => ⟨S16x16x2048x256, .f32⟩
  | 5 => ⟨S16x8x2048x256, .f32⟩
  | 6 => ⟨S16x8x2048x256, .f32⟩
  | 7 => ⟨S16x8x2048x256, .f32⟩
  | 8 => ⟨S16x8x2048x256, .f32⟩
  | 9 => ⟨S16x8x2048x256, .f32⟩
  | 10 => ⟨S_, .f32⟩
  | 11 => ⟨S16x8x2048, .f32⟩
  | 12 => ⟨S16x8x2048x1, .f32⟩
  | 13 => ⟨S_, .f32⟩
  | 14 => ⟨S16x8x2048x1, .f32⟩
  | 15 => ⟨S16x8x2048x1, .f32⟩
  | 16 => ⟨S_, .f32⟩
  | 17 => ⟨S16x8x2048x1, .f32⟩
  | 18 => ⟨S16x8x2048x1, .f32⟩
  | 19 => ⟨S16x8x2048x1, .f32⟩
  | 20 => ⟨S16x8x2048x256, .f32⟩
  | 21 => ⟨S16x8x2048x256, .f32⟩
  | 22 => ⟨S16x2048x8x256, .f32⟩
  | 23 => ⟨S16x2048x2048, .f32⟩
  | 24 => ⟨S16x2048x2048, .f32⟩
  | 25 => ⟨S16x2048x2048, .f32⟩
  | 26 => ⟨S16x2048x2048, .f32⟩
  | 27 => ⟨S_, .f32⟩
  | 28 => ⟨S16x2048x2048, .f32⟩
  | 29 => ⟨S16x2048x2048, .f32⟩
  | 30 => ⟨S_, .f32⟩
  | 31 => ⟨S16x2048x2048, .f32⟩
  | 32 => ⟨S16x2048x2048, .f32⟩
  | 33 => ⟨S16x2048x2048, .f32⟩
  | 34 => ⟨S16x2048x2048, .f32⟩
  | 35 => ⟨S16x2048x2048, .bf16⟩
  | _ => ⟨S16x2048x14336, .bf16⟩

abbrev hbmTy (i : Nat) : BufTy := match i / 128 with
  | 0 => hbmTy0_0 i
  | 1 => hbmTy0_1 i
  | 2 => hbmTy0_2 i
  | _ => ⟨S16x2048x14336, .bf16⟩

abbrev bufTy : (tb : Table) → Fin (tcTables nBuf tb) → BufTy
  | .hbm, ⟨i, _⟩ => hbmTy i
  | _, _ => ⟨S16x2048x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_c : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_c_0 : Ref sig .tc := ⟨.hbm, 47, rfl⟩
abbrev main_call0_v12 : Ref sig .tc := ⟨.hbm, 48, rfl⟩
abbrev main_call0_v13 : Ref sig .tc := ⟨.hbm, 49, rfl⟩
abbrev main_v28 : Ref sig .tc := ⟨.hbm, 50, rfl⟩
abbrev main_v29 : Ref sig .tc := ⟨.hbm, 51, rfl⟩
abbrev main_c_1 : Ref sig .tc := ⟨.hbm, 52, rfl⟩
abbrev main_call1_v0 : Ref sig .tc := ⟨.hbm, 53, rfl⟩
abbrev main_call1_c : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_c_1 : Ref sig .tc := ⟨.hbm, 60, rfl⟩
abbrev main_call1_v5 : Ref sig .tc := ⟨.hbm, 61, rfl⟩
abbrev main_call1_v6 : Ref sig .tc := ⟨.hbm, 62, rfl⟩
abbrev main_call1_c_2 : Ref sig .tc := ⟨.hbm, 63, rfl⟩
abbrev main_call1_v7 : Ref sig .tc := ⟨.hbm, 64, rfl⟩
abbrev main_call1_v8 : Ref sig .tc := ⟨.hbm, 65, rfl⟩
abbrev main_call1_c_3 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_cst_2 : Ref sig .tc := ⟨.hbm, 77, rfl⟩
abbrev main_v34 : Ref sig .tc := ⟨.hbm, 78, rfl⟩
abbrev main_v35 : Ref sig .tc := ⟨.hbm, 79, rfl⟩
abbrev main_cst_3 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_4 : Ref sig .tc := ⟨.hbm, 136, rfl⟩
abbrev main_v91 : Ref sig .tc := ⟨.hbm, 137, rfl⟩
abbrev main_v92 : Ref sig .tc := ⟨.hbm, 138, rfl⟩
abbrev main_cst_5 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_6 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_v172 : Ref sig .tc := ⟨.hbm, 220, rfl⟩
abbrev main_v173 : Ref sig .tc := ⟨.hbm, 221, rfl⟩
abbrev main_v174 : Ref sig .tc := ⟨.hbm, 222, rfl⟩
abbrev main_v175 : Ref sig .tc := ⟨.hbm, 223, rfl⟩
abbrev main_v176 : Ref sig .tc := ⟨.hbm, 224, rfl⟩
abbrev main_cst_7 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_cst_8 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_cst_9 : Ref sig .tc := ⟨.hbm, 237, rfl⟩
abbrev main_call7_v0 : Ref sig .tc := ⟨.hbm, 238, rfl⟩
abbrev main_call7_v1 : Ref sig .tc := ⟨.hbm, 239, rfl⟩
abbrev main_call7_v2 : Ref sig .tc := ⟨.hbm, 240, rfl⟩
abbrev main_v187 : Ref sig .tc := ⟨.hbm, 241, rfl⟩
abbrev main_v188 : Ref sig .tc := ⟨.hbm, 242, rfl⟩
abbrev main_cst_10 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_cst_11 : Ref sig .tc := ⟨.hbm, 266, rfl⟩
abbrev main_v211 : Ref sig .tc := ⟨.hbm, 267, rfl⟩
abbrev main_v212 : Ref sig .tc := ⟨.hbm, 268, rfl⟩
abbrev main_cst_12 : Ref sig .tc := ⟨.hbm, 269, rfl⟩
abbrev main_v213 : Ref sig .tc := ⟨.hbm, 270, rfl⟩
abbrev main_v214 : Ref sig .tc := ⟨.hbm, 271, rfl⟩
abbrev main_cst_13 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_call9_v0 : Ref sig .tc := ⟨.hbm, 281, rfl⟩
abbrev main_call9_v1 : Ref sig .tc := ⟨.hbm, 282, rfl⟩
abbrev main_call9_cst : Ref sig .tc := ⟨.hbm, 283, rfl⟩
abbrev main_call9_v2 : Ref sig .tc := ⟨.hbm, 284, rfl⟩
abbrev main_call9_v3 : Ref sig .tc := ⟨.hbm, 285, rfl⟩
abbrev main_call9_cst_0 : Ref sig .tc := ⟨.hbm, 286, rfl⟩
abbrev main_call9_v4 : Ref sig .tc := ⟨.hbm, 287, rfl⟩
abbrev main_call9_v5 : Ref sig .tc := ⟨.hbm, 288, rfl⟩
abbrev main_v223 : Ref sig .tc := ⟨.hbm, 289, rfl⟩
abbrev main_v224 : Ref sig .tc := ⟨.hbm, 290, rfl⟩
abbrev main_v225 : Ref sig .tc := ⟨.hbm, 291, rfl⟩

abbrev nD : Nat := 1
abbrev τ : Topo := Topo.v7x

variable {F : FTy → Type} [FloatOps F]
-- ==== Inproj.lean ====
abbrev S16x2048x2048 : Shape := ⟨3, ![16, 2048, 2048]⟩
abbrev S1x2048 : Shape := ⟨2, ![1, 2048]⟩
abbrev S16x1x2048 : Shape := ⟨3, ![16, 1, 2048]⟩
abbrev S1x2048x14336 : Shape := ⟨3, ![1, 2048, 14336]⟩
abbrev S32768x2048 : Shape := ⟨2, ![32768, 2048]⟩
abbrev S2048x14336 : Shape := ⟨2, ![2048, 14336]⟩
abbrev S2048 : Shape := ⟨1, ![2048]⟩
abbrev S32768x14336 : Shape := ⟨2, ![32768, 14336]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S16x1x2048, .f32⟩
  | .hbm, ⟨3, _⟩ => ⟨S16x1x2048, .f32⟩
  | .hbm, ⟨4, _⟩ => ⟨S1x2048x14336, .f32⟩
  | .hbm, ⟨5, _⟩ => ⟨S32768x2048, .f32⟩
  | .hbm, ⟨6, _⟩ => ⟨S2048x14336, .f32⟩
  | .hbm, ⟨7, _⟩ => ⟨S2048x14336, .bf16⟩
  | .hbm, ⟨8, _⟩ => ⟨S2048, .f32⟩
  | .hbm, ⟨9, _⟩ => ⟨S1x2048, .f32⟩
  | .hbm, ⟨10, _⟩ => ⟨S32768x14336, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InprojRefIdeal.lean ====
abbrev S16x2048x2048 : Shape := ⟨3, ![16, 2048, 2048]⟩
abbrev S1x2048 : Shape := ⟨2, ![1, 2048]⟩
abbrev S16x1x2048 : Shape := ⟨3, ![16, 1, 2048]⟩
abbrev S1x2048x14336 : Shape := ⟨3, ![1, 2048, 14336]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x14336 : Shape := ⟨2, ![2048, 14336]⟩
abbrev S16x2048x14336 : Shape := ⟨3, ![16, 2048, 14336]⟩
abbrev S32768x14336 : Shape := ⟨2, ![32768, 14336]⟩

abbrev nBuf : Space → Nat
  | .hbm => 33
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S1x2048, .f32⟩
  | .hbm, ⟨2, _⟩ => ⟨S16x1x2048, .f32⟩
  | .hbm, ⟨3, _⟩ => ⟨S16x1x2048, .f32⟩
  | .hbm, ⟨4, _⟩ => ⟨S1x2048x14336, .f32⟩
  | .hbm, ⟨5, _⟩ => ⟨S2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S_, .f32⟩
  | .hbm, ⟨23, _⟩ => ⟨S16x1x2048, .f32⟩
  | .hbm, ⟨24, _⟩ => ⟨S16x1x2048, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S16x2048x2048, .f32⟩
  | .hbm, ⟨29, _⟩ => ⟨S2048x14336, .f32⟩
  | .hbm, ⟨30, _⟩ => ⟨S16x2048x14336, .f32⟩
  | .hbm, ⟨31, _⟩ => ⟨S32768x14336, .f32⟩
  | .hbm, ⟨32, _⟩ => ⟨S32768x14336, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Merge.lean ====
abbrev S32768x2048 : Shape := ⟨2, ![32768, 2048]⟩
abbrev S32768x14336 : Shape := ⟨2, ![32768, 14336]⟩
abbrev S1x2048x2048 : Shape := ⟨3, ![1, 2048, 2048]⟩
abbrev S2048x2048 : Shape := ⟨2, ![2048, 2048]⟩
abbrev S512x2048 : Shape := ⟨2, ![512, 2048]⟩
abbrev S512x1024 : Shape := ⟨2, ![512, 1024]⟩
abbrev S2048x1024 : Shape := ⟨2, ![2048, 1024]⟩

abbrev nBuf : Space → Nat
  | .hbm => 10
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x14336, .bf16⟩
  | .hbm, ⟨3, _⟩ => ⟨S1x2048x2048, .f32⟩
  | .hbm, ⟨4, _⟩ => ⟨S1x2048x2048, .f32⟩
  | .hbm, ⟨5, _⟩ => ⟨S2048x2048, .f32⟩
  | .hbm, ⟨6, _⟩ => ⟨S2048x2048, .bf16⟩
  | .hbm, ⟨7, _⟩ => ⟨S2048x2048, .f32⟩
  | .hbm, ⟨8, _⟩ => ⟨S2048x2048, .bf16⟩
  | .hbm, ⟨9, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S512x1024, .bf16⟩
  | .local _ .vmem, ⟨13, _⟩ => ⟨S512x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![64, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S32768x2048 : Shape := ⟨2, ![32768, 2048]⟩
abbrev S32768x14336 : Shape := ⟨2, ![32768, 14336]⟩
abbrev S1x2048x2048 : Shape := ⟨3, ![1, 2048, 2048]⟩
abbrev S_ : Shape := ⟨0, ![]⟩
abbrev S2048x2048 : Shape := ⟨2, ![2048, 2048]⟩

abbrev nBuf : Space → Nat
  | .hbm => 35
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x14336, .bf16⟩
  | .hbm, ⟨3, _⟩ => ⟨S1x2048x2048, .f32⟩
  | .hbm, ⟨4, _⟩ => ⟨S1x2048x2048, .f32⟩
  | .hbm, ⟨5, _⟩ => ⟨S32768x2048, .bf16⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S32768x2048, .bf16⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S2048x2048, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S2048x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Post.lean ====
abbrev S32768x2048 : Shape := ⟨2, ![32768, 2048]⟩
abbrev S16x2048x2048 : Shape := ⟨3, ![16, 2048, 2048]⟩
abbrev S1x2048x2048 : Shape := ⟨3, ![1, 2048, 2048]⟩
abbrev S1x2048 : Shape := ⟨2, ![1, 2048]⟩
abbrev S16x1x2048 : Shape := ⟨3, ![16, 1, 2048]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S2048x8 : Shape := ⟨2, ![2048, 8]⟩
abbrev S2048x64 : Shape := ⟨2, ![2048, 64]⟩
abbrev S_ : Shape := ⟨0, ![]⟩
abbrev S2048x56 : Shape := ⟨2, ![2048, 56]⟩
abbrev S2048x128 : Shape := ⟨2, ![2048, 128]⟩
abbrev S8 : Shape := ⟨1, ![8]⟩
abbrev S64 : Shape := ⟨1, ![64]⟩
abbrev S56 : Shape := ⟨1, ![56]⟩
abbrev S128 : Shape := ⟨1, ![128]⟩
abbrev S1x128 : Shape := ⟨2, ![1, 128]⟩
abbrev S2048x2048 : Shape := ⟨2, ![2048, 2048]⟩
abbrev S2048 : Shape := ⟨1, ![2048]⟩
abbrev S32768x128 : Shape := ⟨2, ![32768, 128]⟩
abbrev S256x2048 : Shape := ⟨2, ![256, 2048]⟩
abbrev S1x1x2048 : Shape := ⟨3, ![1, 1, 2048]⟩
abbrev S256x128 : Shape := ⟨2, ![256, 128]⟩
abbrev S256 : Shape := ⟨1, ![256]⟩
abbrev S256x1 : Shape := ⟨2, ![256, 1]⟩

abbrev nBuf : Space → Nat
  | .hbm => 34
  | .vmem => 21
  | .smem => 0
  | _ => 0

abbrev bufTy : (tb : Table) → Fin (tcTables nBuf tb) → BufTy
  | .hbm, ⟨0, _⟩ => ⟨S32768x2048, .bf16⟩
  | .hbm, ⟨1, _⟩ => ⟨S16x2048x2048, .f32⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S16x1x2048, .f32⟩
  | .hbm, ⟨6, _⟩ => ⟨S16x1x2048, .f32⟩
  | .hbm, ⟨7, _⟩ => ⟨S16x1x2048, .f32⟩
  | .hbm, ⟨8, _⟩ => ⟨S1x2048x8, .f32⟩
  | .hbm, ⟨9, _⟩ => ⟨S1x8, .f32⟩
  | .hbm, ⟨10, _⟩ => ⟨S1x2048x64, .f32⟩
  | .hbm, ⟨11, _⟩ => ⟨S1x64, .f32⟩
  | .hbm, ⟨12, _⟩ => ⟨S32768x2048, .f32⟩
  | .hbm, ⟨13, _⟩ => ⟨S2048x8, .f32⟩
  | .hbm, ⟨14, _⟩ => ⟨S2048x64, .f32⟩
  | .hbm, ⟨15, _⟩ => ⟨S_, .f32⟩
  | .hbm, ⟨16, _⟩ => ⟨S2048x56, .f32⟩
  | .hbm, ⟨17, _⟩ => ⟨S2048x128, .f32⟩
  | .hbm, ⟨18, _⟩ => ⟨S2048x128, .bf16⟩
  | .hbm, ⟨19, _⟩ => ⟨S8, .f32⟩
  | .hbm, ⟨20, _⟩ => ⟨S64, .f32⟩
  | .hbm, ⟨21, _⟩ => ⟨S_, .f32⟩
  | .hbm, ⟨22, _⟩ => ⟨S56, .f32⟩
  | .hbm, ⟨23, _⟩ => ⟨S128, .f32⟩
  | .hbm, ⟨24, _⟩ => ⟨S1x128, .f32⟩
  | .hbm, ⟨25, _⟩ => ⟨S2048x2048, .f32⟩
  | .hbm, ⟨26, _⟩ => ⟨S2048x2048, .bf16⟩
  | .hbm, ⟨27, _⟩ => ⟨S2048, .f32⟩
  | .hbm, ⟨28, _⟩ => ⟨S1x2048, .f32⟩
  | .hbm, ⟨29, _⟩ => ⟨S2048, .f32⟩
  | .hbm, ⟨30, _⟩ => ⟨S1x2048, .f32⟩
  | .hbm, ⟨31, _⟩ => ⟨S32768x2048, .f32⟩
  | .hbm, ⟨32, _⟩ => ⟨S32768x2048, .f32⟩
  | .hbm, ⟨33, _⟩ => ⟨S32768x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S2048x128, .bf16⟩
  | .local _ .vmem, ⟨14, _⟩ => ⟨S1x128, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x128, .f32⟩
  | .local _ .vmem, ⟨20, _⟩ => ⟨S256x128, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17_0 : Ref sig .tc := ⟨.hbm, 31, rfl⟩
abbrev main_v17_1 : Ref sig .tc := ⟨.hbm, 32, rfl⟩
abbrev main_v17_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== PostRefIdeal.lean ====
abbrev S32768x2048 : Shape := ⟨2, ![32768, 2048]⟩
abbrev S16x2048x2048 : Shape := ⟨3, ![16, 2048, 2048]⟩
abbrev S1x2048x2048 : Shape := ⟨3, ![1, 2048, 2048]⟩
abbrev S1x2048 : Shape := ⟨2, ![1, 2048]⟩
abbrev S16x1x2048 : Shape := ⟨3, ![16, 1, 2048]⟩
abbrev S1x2048x8 : Shape := ⟨3, ![1, 2048, 8]⟩
abbrev S1x8 : Shape := ⟨2, ![1, 8]⟩
abbrev S1x2048x64 : Shape := ⟨3, ![1, 2048, 64]⟩
abbrev S1x64 : Shape := ⟨2, ![1, 64]⟩
abbrev S2048x2048 : Shape := ⟨2, ![2048, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S2048x8 : Shape := ⟨2, ![2048, 8]⟩
abbrev S32768x8 : Shape := ⟨2, ![32768, 8]⟩
abbrev S8 : Shape := ⟨1, ![8]⟩
abbrev S2048x64 : Shape := ⟨2, ![2048, 64]⟩
abbrev S32768x64 : Shape := ⟨2, ![32768, 64]⟩
abbrev S64 : Shape := ⟨1, ![64]⟩
abbrev S32768x56 : Shape := ⟨2, ![32768, 56]⟩
abbrev S32768x128 : Shape := ⟨2, ![32768, 128]⟩

abbrev nBuf : Space → Nat
  | .hbm => 77
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S16x2048x2048, .f32⟩
  | .hbm, ⟨2, _⟩ => ⟨S1x2048x2048, .f32⟩
  | .hbm, ⟨3, _⟩ => ⟨S1x2048, .f32⟩
  | .hbm, ⟨4, _⟩ => ⟨S1x2048, .f32⟩
  | .hbm, ⟨5, _⟩ => ⟨S16x1x2048, .f32⟩
  | .hbm, ⟨6, _⟩ => ⟨S16x1x2048, .f32⟩
  | .hbm, ⟨7, _⟩ => ⟨S16x1x2048, .f32⟩
  | .hbm, ⟨8, _⟩ => ⟨S1x2048x8, .f32⟩
  | .hbm, ⟨9, _⟩ => ⟨S1x8, .f32⟩
  | .hbm, ⟨10, _⟩ => ⟨S1x2048x64, .f32⟩
  | .hbm, ⟨11, _⟩ => ⟨S1x64, .f32⟩
  | .hbm, ⟨12, _⟩ => ⟨S32768x2048, .f32⟩
  | .hbm, ⟨13, _⟩ => ⟨S16x2048x2048, .f32⟩
  | .hbm, ⟨14, _⟩ => ⟨S2048x2048, .f32⟩
  | .hbm, ⟨15, _⟩ => ⟨S16x2048x2048, .f32⟩
  | .hbm, ⟨16, _⟩ => ⟨S2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S_, .f32⟩
  | .hbm, ⟨22, _⟩ => ⟨S16x2048x1, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S1x1x2048, .f32⟩
  | .hbm, ⟨31, _⟩ => ⟨S16x2048x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S2048, .f32⟩
  | .hbm, ⟨37, _⟩ => ⟨S16x2048x2048, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x2048x2048, .f32⟩
  | .hbm, ⟨49, _⟩ => ⟨S16x2048x2048, .f32⟩
  | .hbm, ⟨50, _⟩ => ⟨S1x1x2048, .f32⟩
  | .hbm, ⟨51, _⟩ => ⟨S16x2048x2048, .f32⟩
  | .hbm, ⟨52, _⟩ => ⟨S16x2048x2048, .f32⟩
  | .hbm, ⟨53, _⟩ => ⟨S_, .f32⟩
  | .hbm, ⟨54, _⟩ => ⟨S16x1x2048, .f32⟩
  | .hbm, ⟨55, _⟩ => ⟨S16x1x2048, .f32⟩
  | .hbm, ⟨56, _⟩ => ⟨S16x2048x2048, .f32⟩
  | .hbm, ⟨57, _⟩ => ⟨S16x2048x2048, .f32⟩
  | .hbm, ⟨58, _⟩ => ⟨S16x2048x2048, .f32⟩
  | .hbm, ⟨59, _⟩ => ⟨S16x2048x2048, .f32⟩
  | .hbm, ⟨60, _⟩ => ⟨S32768x2048, .f32⟩
  | .hbm, ⟨61, _⟩ => ⟨S2048x8, .f32⟩
  | .hbm, ⟨62, _⟩ => ⟨S32768x8, .f32⟩
  | .hbm, ⟨63, _⟩ => ⟨S8, .f32⟩
  | .hbm, ⟨64, _⟩ => ⟨S1x8, .f32⟩
  | .hbm, ⟨65, _⟩ => ⟨S32768x8, .f32⟩
  | .hbm, ⟨66, _⟩ => ⟨S32768x8, .f32⟩
  | .hbm, ⟨67, _⟩ => ⟨S2048x64, .f32⟩
  | .hbm, ⟨68, _⟩ => ⟨S32768x64, .f32⟩
  | .hbm, ⟨69, _⟩ => ⟨S64, .f32⟩
  | .hbm, ⟨70, _⟩ => ⟨S1x64, .f32⟩
  | .hbm, ⟨71, _⟩ => ⟨S32768x64, .f32⟩
  | .hbm, ⟨72, _⟩ => ⟨S32768x64, .f32⟩
  | .hbm, ⟨73, _⟩ => ⟨S_, .f32⟩
  | .hbm, ⟨74, _⟩ => ⟨S32768x56, .f32⟩
  | .hbm, ⟨75, _⟩ => ⟨S32768x2048, .f32⟩
  | .hbm, ⟨76, _⟩ => ⟨S32768x128, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_6 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== Context.lean ====
abbrev S16x256x2048 : Shape := ⟨3, ![16, 256, 2048]⟩
abbrev S1x2048 : Shape := ⟨2, ![1, 2048]⟩
abbrev S1x1x2048 : Shape := ⟨3, ![1, 1, 2048]⟩
abbrev S1x2048x14336 : Shape := ⟨3, ![1, 2048, 14336]⟩
abbrev S2048x14336 : Shape := ⟨2, ![2048, 14336]⟩
abbrev S4096x2048 : Shape := ⟨2, ![4096, 2048]⟩
abbrev S2048 : Shape := ⟨1, ![2048]⟩
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S16x256x2048, .f32⟩
  | .hbm, ⟨1, _⟩ => ⟨S1x2048, .f32⟩
  | .hbm, ⟨2, _⟩ => ⟨S1x1x2048, .f32⟩
  | .hbm, ⟨3, _⟩ => ⟨S1x1x2048, .f32⟩
  | .hbm, ⟨4, _⟩ => ⟨S1x2048x14336, .f32⟩
  | .hbm, ⟨5, _⟩ => ⟨S2048x14336, .f32⟩
  | .hbm, ⟨6, _⟩ => ⟨S2048x14336, .bf16⟩
  | .hbm, ⟨7, _⟩ => ⟨S4096x2048, .f32⟩
  | .hbm, ⟨8, _⟩ => ⟨S2048, .f32⟩
  | .hbm, ⟨9, _⟩ => ⟨S1x2048, .f32⟩
  | .hbm, ⟨10, _⟩ => ⟨S4096x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S2048x1024, .bf16⟩
  | .local _ .vmem, ⟨6, _⟩ => ⟨S2048x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ContextRefIdeal.lean ====
abbrev S16x256x2048 : Shape := ⟨3, ![16, 256, 2048]⟩
abbrev S1x2048 : Shape := ⟨2, ![1, 2048]⟩
abbrev S1x1x2048 : Shape := ⟨3, ![1, 1, 2048]⟩
abbrev S1x2048x14336 : Shape := ⟨3, ![1, 2048, 14336]⟩
abbrev S2048 : Shape := ⟨1, ![2048]⟩
abbrev S_ : Shape := ⟨0, ![]⟩
abbrev S16x256 : Shape := ⟨2, ![16, 256]⟩
abbrev S16x256x1 : Shape := ⟨3, ![16, 256, 1]⟩
abbrev S2048x14336 : Shape := ⟨2, ![2048, 14336]⟩
abbrev S2048x4096 : Shape := ⟨2, ![2048, 4096]⟩
abbrev S16x256x4096 : Shape := ⟨3, ![16, 256, 4096]⟩
abbrev S4096x4096 : Shape := ⟨2, ![4096, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S1x2048, .f32⟩
  | .hbm, ⟨2, _⟩ => ⟨S1x1x2048, .f32⟩
  | .hbm, ⟨3, _⟩ => ⟨S1x1x2048, .f32⟩
  | .hbm, ⟨4, _⟩ => ⟨S1x2048x14336, .f32⟩
  | .hbm, ⟨5, _⟩ => ⟨S2048, .f32⟩
  | .hbm, ⟨6, _⟩ => ⟨S16x256x2048, .f32⟩
  | .hbm, ⟨7, _⟩ => ⟨S_, .f32⟩
  | .hbm, ⟨8, _⟩ => ⟨S16x256, .f32⟩
  | .hbm, ⟨9, _⟩ => ⟨S16x256x1, .f32⟩
  | .hbm, ⟨10, _⟩ => ⟨S_, .f32⟩
  | .hbm, ⟨11, _⟩ => ⟨S16x256x1, .f32⟩
  | .hbm, ⟨12, _⟩ => ⟨S16x256x1, .f32⟩
  | .hbm, ⟨13, _⟩ => ⟨S_, .f32⟩
  | .hbm, ⟨14, _⟩ => ⟨S16x256x1, .f32⟩
  | .hbm, ⟨15, _⟩ => ⟨S16x256x1, .f32⟩
  | .hbm, ⟨16, _⟩ => ⟨S16x256x1, .f32⟩
  | .hbm, ⟨17, _⟩ => ⟨S16x256x2048, .f32⟩
  | .hbm, ⟨18, _⟩ => ⟨S16x256x2048, .f32⟩
  | .hbm, ⟨19, _⟩ => ⟨S1x1x2048, .f32⟩
  | .hbm, ⟨20, _⟩ => ⟨S16x256x2048, .f32⟩
  | .hbm, ⟨21, _⟩ => ⟨S16x256x2048, .f32⟩
  | .hbm, ⟨22, _⟩ => ⟨S_, .f32⟩
  | .hbm, ⟨23, _⟩ => ⟨S1x1x2048, .f32⟩
  | .hbm, ⟨24, _⟩ => ⟨S1x1x2048, .f32⟩
  | .hbm, ⟨25, _⟩ => ⟨S16x256x2048, .f32⟩
  | .hbm, ⟨26, _⟩ => ⟨S16x256x2048, .f32⟩
  | .hbm, ⟨27, _⟩ => ⟨S16x256x2048, .f32⟩
  | .hbm, ⟨28, _⟩ => ⟨S16x256x2048, .f32⟩
  | .hbm, ⟨29, _⟩ => ⟨S2048x14336, .f32⟩
  | .hbm, ⟨30, _⟩ => ⟨S2048x4096, .f32⟩
  | .hbm, ⟨31, _⟩ => ⟨S16x256x4096, .f32⟩
  | .hbm, ⟨32, _⟩ => ⟨S4096x4096, .f32⟩
  | .hbm, ⟨33, _⟩ => ⟨S4096x4096, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.RetMath.lean ====
module

public import Mathlib.Data.Real.Basic
public import Mathlib.Algebra.BigOperators.Ring.Finset
public import Mathlib.Algebra.BigOperators.Intervals
public import Mathlib.Tactic.Ring
public import Mathlib.Tactic.Linarith

/-! Retention over the reals: the state after every token, and what a block of tokens does to it at once. -/

@[expose] public section

noncomputable section

namespace Cert.Retention

/-- The state after the first `n` tokens: each decays what was there and adds its key times its value. -/
def st (γ : ℝ) (s0 : Fin 256 → Fin 256 → ℝ) (k v : ℕ → Fin 256 → ℝ) : ℕ → Fin 256 → Fin 256 → ℝ
  | 0 => s0
  | n + 1 => fun d e => st γ s0 k v n d e * γ + k n d * v n e

/-- What token `n` reads with the query `q`: the state that includes itself. -/
def out (γ : ℝ) (s0 : Fin 256 → Fin 256 → ℝ) (k v : ℕ → Fin 256 → ℝ) (q : Fin 256 → ℝ) (n : ℕ) (e : Fin 256) : ℝ :=
  ∑ d, q d * st γ s0 k v (n + 1) d e

variable (γ : ℝ) (s0 : Fin 256 → Fin 256 → ℝ) (k v : ℕ → Fin 256 → ℝ)

theorem st_add (n c : ℕ) (d e : Fin 256) :
    st γ s0 k v (n + c) d e
      = st γ s0 k v n d e * γ ^ c + ∑ j ∈ Finset.range c, k (n + j) d * γ ^ (c - 1 - j) * v (n + j) e := by
  induction c with
  | zero => simp
  | succ c ih =>
    show st γ s0 k v (n + c) d e * γ + k (n + c) d * v (n + c) e = _
    rw [ih, Finset.sum_range_succ, add_mul, Finset.sum_mul, pow_succ]
    have h : ∀ j ∈ Finset.range c, k (n + j) d * γ ^ (c - 1 - j) * v (n + j) e * γ
        = k (n + j) d * γ ^ (c + 1 - 1 - j) * v (n + j) e := by
      intro j hj
      have hj := Finset.mem_range.mp hj
      rw [show c + 1 - 1 - j = (c - 1 - j) + 1 by omega, pow_succ]
      ring
    rw [Finset.sum_congr rfl h]
    simp only [Nat.add_sub_cancel, Nat.sub_self, pow_zero]
    ring

/-- One block of `c` tokens after token `n`: the state it leaves. -/
theorem st_block (n c : ℕ) (d e : Fin 256) :
    st γ s0 k v (n + c) d e
      = st γ s0 k v n d e * γ ^ c + ∑ j : Fin c, k (n + j) d * γ ^ (c - 1 - j.val) * v (n + j) e := by
  rw [st_add, Fin.sum_univ_eq_sum_range (fun j => k (n + j) d * γ ^ (c - 1 - j) * v (n + j) e)]

/-- One block of `c` tokens after token `n`: what its token `j` reads, from the tokens of the block up to it and from the
    state before the block. -/
theorem out_block (q : Fin 256 → ℝ) (n c : ℕ) (j : Fin c) (e : Fin 256) :
    out γ s0 k v q (n + j) e
      = (∑ i : Fin c, (∑ d, q d * k (n + i) d) * (if i ≤ j then γ ^ (j.val - i.val) else 0) * v (n + i) e)
        + (∑ d, q d * st γ s0 k v n d e) * γ ^ (j.val + 1) := by
  unfold out
  simp only [Nat.add_assoc, st_add γ s0 k v n (j.val + 1), mul_add, Finset.sum_add_distrib]
  rw [add_comm, Finset.sum_mul]
  congr 1
  · simp only [Finset.mul_sum]
    rw [Finset.sum_comm]
    have hsub : Finset.range (j.val + 1) ⊆ Finset.range c := Finset.range_subset_range.mpr j.isLt
    refine .trans ?_ (Fin.sum_univ_eq_sum_range
      (fun i => (∑ d, q d * k (n + i) d) * (if i ≤ j.val then γ ^ (j.val - i) else 0) * v (n + i) e) c).symm
    rw [← Finset.sum_subset hsub]
    · refine Finset.sum_congr rfl fun i hi => ?_
      have hi := Finset.mem_range.mp hi
      rw [if_pos (by omega), Finset.sum_mul, Finset.sum_mul, show j.val + 1 - 1 - i = j.val - i by omega]
      exact Finset.sum_congr rfl fun d _ => by ring
    · intro i _ hi
      have hi : ¬ i < j.val + 1 := fun h => hi (Finset.mem_range.mpr h)
      rw [if_neg (by omega), mul_zero, zero_mul]
  · exact Finset.sum_congr rfl fun d _ => (mul_assoc _ _ _).symm

end Cert.Retention

end
-- ==== Proof.RetIdeal.lean ====
module

public import proofs.«01_k».proof.Proof.RetMath
public import Idealize.ShloMosaic.PureOps.Ideal

/-! Retention on the extended reals, where every query, key, value and state is finite. -/

@[expose] public section

noncomputable section

namespace Cert.Retention

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- The decay of one token. -/
def decay (lg : EReal) : ℝ := (Ideal.exp lg).toReal

/-- The decay of `n` tokens, also where the logarithm is infinite. -/
theorem exp_mul (lg : EReal) (h : lg ≤ 0) (n : ℕ) : Ideal.exp (lg * ((n : ℝ) : EReal)) = ((decay lg ^ n : ℝ) : EReal) := by
  unfold decay
  induction lg using EReal.rec with
  | bot =>
    rcases Nat.eq_zero_or_pos n with rfl | hn
    · rw [Nat.cast_zero, EReal.coe_zero, mul_zero, ← EReal.coe_zero, Ideal.exp_coe, Real.exp_zero, pow_zero]
    · rw [EReal.bot_mul_coe_of_pos (by exact_mod_cast hn), Ideal.exp_bot, EReal.toReal_zero, zero_pow (by omega), EReal.coe_zero]
  | coe r =>
    rw [← EReal.coe_mul, Ideal.exp_coe, Ideal.exp_coe, EReal.toReal_coe, mul_comm, Real.exp_nat_mul]
  | top => exact absurd h (by simp)

theorem neg_exp_le (x : EReal) : -(Ideal.exp x) ≤ 0 := by
  induction x using EReal.rec with
  | bot => simp
  | coe r =>
    rw [Ideal.exp_coe, ← EReal.coe_neg, ← EReal.coe_zero, EReal.coe_le_coe_iff]
    linarith [Real.exp_pos r]
  | top => simp

variable (γ : ℝ) (s0 : Fin 256 → Fin 256 → ℝ) (k v : ℕ → Fin 256 → ℝ)

/-- What token `j` of a block of `c` tokens reads, in the products and sums that a block's computation makes. -/
theorem out_block_ideal (q : Fin 256 → ℝ) (n c : ℕ) (j : Fin c) (e : Fin 256) :
    (∑ i : Fin c, (∑ d, (q d : EReal) * (k (n + i) d : EReal)) * ((if i ≤ j then γ ^ (j.val - i.val) else 0 : ℝ) : EReal) * (v (n + i) e : EReal))
        + (∑ d, (q d : EReal) * (st γ s0 k v n d e : EReal)) * ((γ ^ (j.val + 1) : ℝ) : EReal)
      = (out γ s0 k v q (n + j) e : EReal) := by
  rw [out_block]
  simp only [← EReal.coe_mul, ← coe_sum, ← EReal.coe_add]

/-- The state that a block leaves, in the products and sums that a block's computation makes. -/
theorem st_block_ideal (n c : ℕ) (d e : Fin 256) :
    (st γ s0 k v n d e : EReal) * ((γ ^ c : ℝ) : EReal)
        + ∑ j : Fin c, (k (n + j) d : EReal) * ((γ ^ (c - 1 - j.val) : ℝ) : EReal) * (v (n + j) e : EReal)
      = (st γ s0 k v (n + c) d e : EReal) := by
  rw [st_block]
  simp only [← EReal.coe_mul, ← coe_sum, ← EReal.coe_add]

end Cert.Retention

end
-- ==== Proof.RetTwoPass.lean ====
module

public import proofs.«01_k».proof.Proof.RetIdeal
public import Mathlib.Algebra.BigOperators.Fin

/-! Retention of a sequence of 2048 tokens in both directions at once, a block of 256 tokens at a time. -/

@[expose] public section

noncomputable section

namespace Cert.Retention

open Idealize.ShloMosaic

/-- The sequence read from its end. -/
def rev (k : ℕ → Fin 256 → ℝ) : ℕ → Fin 256 → ℝ := fun n => k (2047 - n)

variable (γf γb : ℝ) (sf sb : Fin 256 → Fin 256 → ℝ) (k v : ℕ → Fin 256 → ℝ) (q : Fin 256 → ℝ)

theorem rev_val (j : Fin 256) : (Fin.rev j).val = 255 - j.val := by rw [Fin.val_rev]; omega

/-- What a block reads from itself going backward, its tokens counted from the start. -/
theorem out_back (c : ℕ) (hc : c < 8) (i : Fin 256) (e : Fin 256) :
    out γb sb (rev k) (rev v) q (2047 - (256 * c + i.val)) e
      = (∑ j : Fin 256, (∑ d, q d * k (256 * c + j.val) d) * (if i.val ≤ j.val then γb ^ (j.val - i.val) else 0) * v (256 * c + j.val) e)
        + (∑ d, q d * st γb sb (rev k) (rev v) (256 * (7 - c)) d e) * γb ^ (256 - i.val) := by
  have e1 : 2047 - (256 * c + i.val) = 256 * (7 - c) + (Fin.rev i).val := by rw [rev_val]; omega
  rw [e1, out_block γb sb (rev k) (rev v) q (256 * (7 - c)) 256 (Fin.rev i) e]
  have e2 : (Fin.rev i).val + 1 = 256 - i.val := by rw [rev_val]; omega
  rw [e2]
  congr 1
  rw [← Equiv.sum_comp Fin.revPerm]
  refine Finset.sum_congr rfl fun j _ => ?_
  have e3 : 2047 - (256 * (7 - c) + (Fin.rev j).val) = 256 * c + j.val := by rw [rev_val]; omega
  have e4 : (Fin.rev i).val - (Fin.rev j).val = j.val - i.val := by rw [rev_val, rev_val]; omega
  simp only [Fin.revPerm_apply, rev, e3, e4, Fin.rev_le_rev]
  rfl

/-- Both directions at once, over the reals. -/
theorem two_pass (c : ℕ) (hc : c < 8) (i : Fin 256) (e : Fin 256) :
    (∑ j : Fin 256, (∑ d, q d * k (256 * c + j.val) d)
          * ((if j.val ≤ i.val then γf ^ (i.val - j.val) else 0) + (if i.val ≤ j.val then γb ^ (j.val - i.val) else 0)) * v (256 * c + j.val) e)
        + (∑ d, q d * st γf sf k v (256 * c) d e) * γf ^ (i.val + 1)
        + (∑ d, q d * st γb sb (rev k) (rev v) (256 * (7 - c)) d e) * γb ^ (256 - i.val)
      = out γf sf k v q (256 * c + i.val) e + out γb sb (rev k) (rev v) q (2047 - (256 * c + i.val)) e := by
  rw [out_back γb sb k v q c hc i e, out_block γf sf k v q (256 * c) 256 i e]
  simp only [mul_add, add_mul, Finset.sum_add_distrib, Fin.le_def]
  ring

/-- Both directions at once, in the products and sums that the blocks' computation makes. -/
theorem two_pass_ideal (c : ℕ) (hc : c < 8) (i : Fin 256) (e : Fin 256) :
    (∑ j : Fin 256, (∑ d, (q d : EReal) * (k (256 * c + j.val) d : EReal))
          * (((if j.val ≤ i.val then γf ^ (i.val - j.val) else 0 : ℝ) : EReal) + ((if i.val ≤ j.val then γb ^ (j.val - i.val) else 0 : ℝ) : EReal)) * (v (256 * c + j.val) e : EReal))
        + (∑ d, (q d : EReal) * (st γf sf k v (256 * c) d e : EReal)) * ((γf ^ (i.val + 1) : ℝ) : EReal)
        + (∑ d, (q d : EReal) * (st γb sb (rev k) (rev v) (256 * (7 - c)) d e : EReal)) * ((γb ^ (256 - i.val) : ℝ) : EReal)
      = (out γf sf k v q (256 * c + i.val) e : EReal) + (out γb sb (rev k) (rev v) q (2047 - (256 * c + i.val)) e : EReal) := by
  rw [← EReal.coe_add, ← two_pass γf γb sf sb k v q c hc i e]
  simp only [← EReal.coe_mul, ← coe_sum, ← EReal.coe_add]

/-- The state that a block leaves going backward, its tokens counted from the start. -/
theorem st_back_ideal (c : ℕ) (hc : c < 8) (d e : Fin 256) :
    (st γb sb (rev k) (rev v) (256 * c) d e : EReal) * ((γb ^ 256 : ℝ) : EReal)
        + ∑ j : Fin 256, (k (1792 - 256 * c + j.val) d : EReal) * ((γb ^ j.val : ℝ) : EReal) * (v (1792 - 256 * c + j.val) e : EReal)
      = (st γb sb (rev k) (rev v) (256 * (c + 1)) d e : EReal) := by
  rw [show 256 * (c + 1) = 256 * c + 256 by ring, ← st_block_ideal γb sb (rev k) (rev v) (256 * c) 256 d e]
  congr 1
  rw [← Equiv.sum_comp Fin.revPerm]
  refine Finset.sum_congr rfl fun j _ => ?_
  have e3 : 2047 - (256 * c + j.val) = 1792 - 256 * c + (Fin.rev j).val := by rw [rev_val]; omega
  have e4 : 256 - 1 - j.val = (Fin.rev j).val := by rw [rev_val]
  simp only [Fin.revPerm_apply, rev, e3, e4]

/-- The state that a context of 256 tokens leaves. -/
def ctx (γ : ℝ) (k v : Fin 256 → Fin 256 → ℝ) (d e : Fin 256) : ℝ := ∑ j : Fin 256, k j d * γ ^ (255 - j.val) * v j e

/-- The same, the context read from its end. -/
def ctxBack (γ : ℝ) (k v : Fin 256 → Fin 256 → ℝ) (d e : Fin 256) : ℝ := ∑ j : Fin 256, k j d * γ ^ j.val * v j e

theorem ctx_ideal (γ : ℝ) (k v : Fin 256 → Fin 256 → ℝ) (d e : Fin 256) :
    (∑ j : Fin 256, (k j d : EReal) * ((γ ^ (255 - j.val) : ℝ) : EReal) * (v j e : EReal)) = (ctx γ k v d e : EReal) := by
  unfold ctx
  simp only [← EReal.coe_mul, ← coe_sum]

theorem ctxBack_ideal (γ : ℝ) (k v : Fin 256 → Fin 256 → ℝ) (d e : Fin 256) :
    (∑ j : Fin 256, (k j d : EReal) * ((γ ^ j.val : ℝ) : EReal) * (v j e : EReal)) = (ctxBack γ k v d e : EReal) := by
  unfold ctxBack
  simp only [← EReal.coe_mul, ← coe_sum]

theorem ctx_rev (γ : ℝ) (k v : Fin 256 → Fin 256 → ℝ) (d e : Fin 256) :
    ctx γ (fun j => k j.rev) (fun j => v j.rev) d e = ctxBack γ k v d e := by
  unfold ctx ctxBack
  rw [← Equiv.sum_comp Fin.revPerm]
  refine Finset.sum_congr rfl fun j _ => ?_
  have e4 : 255 - (Fin.rev j).val = j.val := by rw [rev_val]; omega
  simp only [Fin.revPerm_apply, Fin.rev_rev, e4]

/-! The decays, as both programs compute them. -/

/-- An integer difference of two positions, as a number. -/
def gap (i j : ℕ) : EReal := ((((i : ℝ) - (j : ℝ)) : ℝ) : EReal)

theorem exp_gap (lg : EReal) (h : lg ≤ 0) (i j : ℕ) (hij : j ≤ i) : Ideal.exp (lg * gap i j) = ((decay lg ^ (i - j) : ℝ) : EReal) := by
  rw [← exp_mul lg h, gap, Nat.cast_sub hij]

theorem gap_nonneg (i j : ℕ) : 0 ≤ gap i j ↔ j ≤ i := by
  rw [gap, ← EReal.coe_zero, EReal.coe_le_coe_iff, sub_nonneg, Nat.cast_le]

theorem dec_at (lg : EReal) (h : lg ≤ 0) (i j : ℕ) :
    (if 0 ≤ gap i j then Ideal.exp (lg * max (gap i j) 0) else 0) = ((if j ≤ i then decay lg ^ (i - j) else 0 : ℝ) : EReal) := by
  by_cases hij : j ≤ i
  · rw [if_pos ((gap_nonneg i j).mpr hij), if_pos hij, max_eq_left ((gap_nonneg i j).mpr hij), exp_gap lg h i j hij]
  · rw [if_neg (fun hc => hij ((gap_nonneg i j).mp hc)), if_neg hij, EReal.coe_zero]

theorem coe_sub_coe (i j : ℕ) : ((i : ℝ) : EReal) - ((j : ℝ) : EReal) = gap i j := (EReal.coe_sub _ _).symm

end Cert.Retention

end
-- ==== Proof.RetWords.lean ====
module

public import proofs.«01_k».proof.Proof.RetTwoPass
public import Mathlib.Tactic.NormNum

/-! The positions and constants of the two programs, as numbers. -/

@[expose] public section

noncomputable section

namespace Cert.Retention

open Idealize.ShloMosaic

theorem word_at (n : ℕ) (h : n < 2048) : FloatOps.sitofp (F := Ideal) .f32 (BitVec.ofNat 32 n) = ((n : ℝ) : EReal) := by
  have e : (BitVec.ofNat 32 n).toInt = (n : ℤ) := by
    rw [BitVec.toInt_ofNat', Int.bmod_def]; omega
  show (((BitVec.ofNat 32 n).toInt : ℝ) : EReal) = _
  rw [e]; norm_cast

theorem word_sub (i j : ℕ) (hi : i < 2048) (hj : j < 2048) :
    FloatOps.sitofp (F := Ideal) .f32 (BitVec.ofNat 32 i - BitVec.ofNat 32 j) = gap i j := by
  have e : (BitVec.ofNat 32 i - BitVec.ofNat 32 j).toInt = (i : ℤ) - (j : ℤ) := by
    rw [BitVec.toInt_sub, BitVec.toInt_ofNat', BitVec.toInt_ofNat', Int.bmod_def, Int.bmod_def, Int.bmod_def]; omega
  show (((BitVec.ofNat 32 i - BitVec.ofNat 32 j).toInt : ℝ) : EReal) = _
  rw [e, gap]; push_cast; rfl

theorem c255 : Ideal.ofBits .f32 0x437F0000#32 = (((255 : ℕ) : ℝ) : EReal) := by
  simp [Ideal.ofBits, Ideal.ieee, -EReal.coe_mul]; norm_num

theorem c256 : Ideal.ofBits .f32 0x43800000#32 = (((256 : ℕ) : ℝ) : EReal) := by
  simp [Ideal.ofBits, Ideal.ieee, -EReal.coe_mul]; norm_num

theorem c16th : Ideal.ofBits .f32 0x3D800000#32 = ((1 / 16 : ℝ) : EReal) := by
  simp [Ideal.ofBits, Ideal.ieee, -EReal.coe_mul]; norm_num

theorem c1e4 : Ideal.ofBits .f32 0x461C4000#32 = ((10000 : ℝ) : EReal) := by
  simp [Ideal.ofBits, Ideal.ieee, -EReal.coe_mul]; norm_num

theorem c64 : Ideal.ofBits .f32 0x42800000#32 = ((64 : ℝ) : EReal) := by
  simp [Ideal.ofBits, Ideal.ieee, -EReal.coe_mul]; norm_num

theorem add_one_coe (n : ℕ) : ((n : ℝ) : EReal) + 1 = (((n + 1 : ℕ) : ℝ) : EReal) := by
  push_cast; rfl

theorem neg_gap (i j : ℕ) : 0 - gap i j = gap j i := by
  rw [gap, gap, ← EReal.coe_zero, ← EReal.coe_sub]; congr 1; ring

theorem gap_nonpos (i j : ℕ) : gap i j ≤ 0 ↔ i ≤ j := by
  rw [gap, ← EReal.coe_zero, EReal.coe_le_coe_iff, sub_nonpos, Nat.cast_le]

/-! Finite numbers. -/

/-- The number is finite. -/
def IsNum (x : EReal) : Prop := ∃ r : ℝ, x = (r : EReal)

theorem IsNum.eq {x : EReal} (h : IsNum x) : x = (x.toReal : EReal) := by
  obtain ⟨r, rfl⟩ := h; rw [EReal.toReal_coe]

theorem IsNum.mul {x y : EReal} (hx : IsNum x) (hy : IsNum y) : IsNum (x * y) := by
  obtain ⟨a, rfl⟩ := hx; obtain ⟨b, rfl⟩ := hy; exact ⟨a * b, (EReal.coe_mul a b).symm⟩

theorem IsNum.add {x y : EReal} (hx : IsNum x) (hy : IsNum y) : IsNum (x + y) := by
  obtain ⟨a, rfl⟩ := hx; obtain ⟨b, rfl⟩ := hy; exact ⟨a + b, (EReal.coe_add a b).symm⟩

theorem IsNum.neg {x : EReal} (hx : IsNum x) : IsNum (-x) := by
  obtain ⟨a, rfl⟩ := hx; exact ⟨-a, (EReal.coe_neg a).symm⟩

theorem IsNum.cos {x : EReal} (hx : IsNum x) : IsNum (Ideal.cos x) := by
  obtain ⟨a, rfl⟩ := hx; exact ⟨Real.cos a, rfl⟩

theorem IsNum.sin {x : EReal} (hx : IsNum x) : IsNum (Ideal.sin x) := by
  obtain ⟨a, rfl⟩ := hx; exact ⟨Real.sin a, rfl⟩

theorem IsNum.pow {x y : EReal} (hx : IsNum x) (hy : IsNum y) : IsNum (Ideal.pow x y) := by
  obtain ⟨a, rfl⟩ := hx; obtain ⟨b, rfl⟩ := hy; exact ⟨Real.rpow a b, rfl⟩

theorem IsNum.word {w : ℕ} (x : BitVec w) : IsNum (FloatOps.sitofp (F := Ideal) .f32 x) := ⟨(x.toInt : ℝ), rfl⟩

theorem IsNum.c16th : IsNum (Ideal.ofBits .f32 0x3D800000#32) := ⟨_, Cert.Retention.c16th⟩

end Cert.Retention

end
-- ==== Proof.RetPre.lean ====
module

public import proofs.«01_k».proof.Defs
public import proofs.«01_k».proof.Proof.RetWords
public import Idealize.ShloMosaic.Lib.Pointwise

/-! What the precondition says: every entry it names is a finite number. -/

@[expose] public section

noncomputable section

namespace Cert.Pre_finite_qkv

open Idealize.ShloMosaic Cert.Retention

theorem facts : Facts := ⟨by decide, by decide, by decide, by decide⟩

variable [Facts]

theorem bits_inf : Ideal.ofBits .f32 0x7F800000#32 = ⊤ := by simp [Ideal.ofBits, Ideal.ieee]

theorem num_of (x : EReal) (h : BitVec.ofBool (decide (FloatOps.absf (F := Ideal) (φ := .f32) x < Ideal.ofBits .f32 0x7F800000#32)) = 1#1) : IsNum x := by
  have h' : FloatOps.absf (F := Ideal) (φ := .f32) x < Ideal.ofBits .f32 0x7F800000#32 := by
    by_contra hc
    rw [decide_eq_false hc] at h
    exact absurd h (by decide)
  rw [bits_inf] at h'
  change max x (-x) < ⊤ at h'
  induction x using EReal.rec with
  | bot => simp at h'
  | coe r => exact ⟨r, rfl⟩
  | top => simp at h'

theorem first_at (a0 : FVec Ideal S16x2048x14336 .bf16) (a1 : FVec Ideal S16x256x4096 .bf16) (a2 : FVec Ideal S1x2x8 .f32)
    (h : (fn a0 a1 a2).1 = fun _ => 1#1) (b : Fin 16) (n : Fin 2048) (l : Fin 14336) (hl : l.val < 6144) : IsNum (a0 (ix3 b n l)) := by
  have t : (fn a0 a1 a2).1 (ix3 b n ⟨l.val, hl⟩)
      = BitVec.ofBool (decide (FloatOps.absf (F := Ideal) (φ := .f32) (a0 (ix3 b n l)) < Ideal.ofBits .f32 0x7F800000#32)) := by
    pointwise [fn]
  exact num_of _ (t.symm.trans (congrFun h _))

theorem second_at (a0 : FVec Ideal S16x2048x14336 .bf16) (a1 : FVec Ideal S16x256x4096 .bf16) (a2 : FVec Ideal S1x2x8 .f32)
    (h : (fn a0 a1 a2).2 = fun _ => 1#1) (b : Fin 16) (n : Fin 256) (l : Fin 4096) : IsNum (a1 (ix3 b n l)) := by
  have t : (fn a0 a1 a2).2 (ix3 b n l)
      = BitVec.ofBool (decide (FloatOps.absf (F := Ideal) (φ := .f32) (a1 (ix3 b n l)) < Ideal.ofBits .f32 0x7F800000#32)) := by
    pointwise [fn]
  exact num_of _ (t.symm.trans (congrFun h _))

end Cert.Pre_finite_qkv

end
-- ==== Proof.RetSpec.lean ====
module

public import proofs.«01_k».proof.Proof.RetWords

/-! The retention of one head as both programs compute it: the rotary embedding, the two directions, the normalisation
and the gate. -/

@[expose] public section

noncomputable section

namespace Cert.Retention

open Idealize.ShloMosaic

/-- The lane that a lane is paired with: 64 further on within its half of 128 lanes. -/
def swap (d : Fin 256) : Fin 256 :=
  if h : d.val < 128 then ⟨(d.val + 128 - 64) % 128, by omega⟩ else ⟨128 + (d.val - 128 + 128 - 64) % 128, by omega⟩

/-- The angle of a lane: the row's for the first 128 lanes, the column's for the others. -/
def angle (A B : Fin 2048 → Fin 64 → EReal) (n : Fin 2048) (d : Fin 256) : EReal :=
  if d.val < 128 then A n ⟨d.val % 64, by omega⟩ else B n ⟨d.val % 64, by omega⟩

/-- The sine of a lane, negative in the first of two paired lanes. -/
def signed (A B : Fin 2048 → Fin 64 → EReal) (n : Fin 2048) (d : Fin 256) : EReal :=
  if d.val % 128 < 64 then -(Ideal.sin (angle A B n d)) else Ideal.sin (angle A B n d)

/-- The rotary embedding of a row of 256 lanes at position `n`. -/
def rope (A B : Fin 2048 → Fin 64 → EReal) (u : Fin 256 → EReal) (n : Fin 2048) (d : Fin 256) : EReal :=
  u d * Ideal.cos (angle A B n d) + u (swap d) * signed A B n d

theorem angle_fin {A B : Fin 2048 → Fin 64 → EReal} (hA : ∀ n i, IsNum (A n i)) (hB : ∀ n i, IsNum (B n i)) (n : Fin 2048) (d : Fin 256) :
    IsNum (angle A B n d) := by
  unfold angle; split
  · exact hA _ _
  · exact hB _ _

theorem rope_fin {A B : Fin 2048 → Fin 64 → EReal} (hA : ∀ n i, IsNum (A n i)) (hB : ∀ n i, IsNum (B n i)) {u : Fin 256 → EReal}
    (hu : ∀ d, IsNum (u d)) (n : Fin 2048) (d : Fin 256) : IsNum (rope A B u n d) := by
  have ha := angle_fin hA hB n d
  refine ((hu d).mul ha.cos).add ((hu _).mul ?_)
  unfold signed; split
  · exact ha.sin.neg
  · exact ha.sin

/-- Scaling before the embedding is scaling after it, where everything is finite. -/
theorem rope_scale {A B : Fin 2048 → Fin 64 → EReal} (hA : ∀ n i, IsNum (A n i)) (hB : ∀ n i, IsNum (B n i)) {u : Fin 256 → EReal}
    (hu : ∀ d, IsNum (u d)) {c : EReal} (hc : IsNum c) (n : Fin 2048) (d : Fin 256) :
    rope A B (fun d => u d * c) n d = rope A B u n d * c := by
  have ha := angle_fin hA hB n d
  have hs : IsNum (signed A B n d) := by
    unfold signed; split
    · exact ha.sin.neg
    · exact ha.sin
  unfold rope
  obtain ⟨a, ea⟩ := hu d; obtain ⟨b, eb⟩ := hu (swap d); obtain ⟨s, es⟩ := hs; obtain ⟨k, ek⟩ := ha.cos; obtain ⟨c, rfl⟩ := hc
  simp only [ea, eb, es, ek]
  simp only [← EReal.coe_mul, ← EReal.coe_add]
  congr 1; ring

/-- A table of 2048 rows as a sequence of numbers. -/
def seq (X : Fin 2048 → Fin 256 → EReal) : ℕ → Fin 256 → ℝ := fun n d => if h : n < 2048 then (X ⟨n, h⟩ d).toReal else 0

theorem seq_at {X : Fin 2048 → Fin 256 → EReal} (h : ∀ n d, IsNum (X n d)) (n : Fin 2048) (d : Fin 256) :
    X n d = ((seq X n.val d : ℝ) : EReal) := by
  rw [seq, dif_pos n.isLt]; exact (h n d).eq

theorem seq_rev (X : Fin 2048 → Fin 256 → EReal) (n : ℕ) (h : n < 2048) : seq (fun n => X n.rev) n = rev (seq X) n := by
  funext d
  rw [rev, seq, seq, dif_pos h, dif_pos (by omega)]
  have e : (⟨n, h⟩ : Fin 2048).rev = ⟨2047 - n, by omega⟩ := Fin.ext (by rw [Fin.val_rev]; show 2048 - (n + 1) = 2047 - n; omega)
  rw [e]

/-- A table's numbers. -/
def nums {m : ℕ} (X : Fin m → Fin 256 → EReal) : Fin m → Fin 256 → ℝ := fun n d => (X n d).toReal

theorem nums_at {m : ℕ} {X : Fin m → Fin 256 → EReal} (h : ∀ n d, IsNum (X n d)) (n : Fin m) (d : Fin 256) :
    X n d = ((nums X n d : ℝ) : EReal) := (h n d).eq

/-- The retention of one head: its forward direction and its backward one. -/
def headOut (l l' : EReal) (Q K V : Fin 2048 → Fin 256 → EReal) (KC VC : Fin 256 → Fin 256 → EReal) (n : Fin 2048) (e : Fin 256) : EReal :=
  ((out (decay l) (ctx (decay l) (nums KC) (nums VC)) (seq K) (seq V) (nums Q n) n.val e : ℝ) : EReal)
    + ((out (decay l') (ctxBack (decay l') (nums KC) (nums VC)) (rev (seq K)) (rev (seq V)) (nums Q n) (2047 - n.val) e : ℝ) : EReal)

/-- A head's output, normalised and gated. -/
def gated (g : EReal) (y : Fin 256 → EReal) (e : Fin 256) : EReal :=
  g * Ideal.div 1 (1 + Ideal.exp (0 - g))
    * (y e * Ideal.rsqrt (Ideal.div (∑ x, y x * y x) (Ideal.ofBits .f32 0x43800000#32) + Ideal.ofBits .f32 0x358637BD#32))

end Cert.Retention

end
-- ==== Proof.RetTrip.lean ====
module

public import proofs.«01_k».proof.Proof.Gen.KernelIdeal.Loops

/-! One trip of each of the retention body's two loops: the block of outputs it writes and the state it leaves. -/

@[expose] public section

set_option maxRecDepth 16384

noncomputable section

namespace Cert.KernelIdeal.Ret

open Idealize.ShloMosaic Idealize.ShloMosaic.TcCoe Idealize.SL.Sem
open Cert.KernelIdeal.Gen

variable {F : FTy → Type} [FloatOps F] (𝒱 : Variants) (c : Dev nD) (bd : Option 𝒱.V) (i : grid0.Coords)
    (arg2 : Memref sig .tc .smem S2x8 .f32) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S1x2048x256 .bf16) (harg5 : arg5.IsWhole)
    (arg6 : Memref sig .tc .vmem S1x2048x256 .bf16) (harg6 : arg6.IsWhole)
    (arg7 : Memref sig .tc .vmem S1x256x256 .bf16) (harg7 : arg7.IsWhole)
    (arg8 : Memref sig .tc .vmem S1x256x256 .bf16) (harg8 : arg8.IsWhole)
    (arg9 : Memref sig .tc .vmem S2048x256 .f32) (harg9 : arg9.IsWhole)
    (arg10 : Memref sig .tc .vmem S2048x256 .f32) (harg10 : arg10.IsWhole)
    (arg11 : Memref sig .tc .vmem S1x2048x256 .bf16) (harg11 : arg11.IsWhole)
    (arg12 : Memref sig .tc .vmem S2048x256 .bf16) (harg12 : arg12.IsWhole)
    (arg13 : Memref sig .tc .vmem S2048x256 .bf16) (harg13 : arg13.IsWhole)
    (arg14 : Memref sig .tc .vmem S2048x256 .f32) (harg14 : arg14.IsWhole)
    (arg15 : Memref sig .tc .vmem S256x256 .f32) (harg15 : arg15.IsWhole)
    (arg16 : Memref sig .tc .vmem S256x256 .f32) (harg16 : arg16.IsWhole)
    (arg17 : Memref sig .tc .vmem S256x256 .f32) (harg17 : arg17.IsWhole)
    (arg18 : Memref sig .tc .vmem S256x256 .f32) (harg18 : arg18.IsWhole)
    (arg19 : Memref sig .tc .vmem S256x256 .f32) (harg19 : arg19.IsWhole)
    (arg20 : Memref sig .tc .vmem S256x256 .f32) (harg20 : arg20.IsWhole)
    (arg21 : Memref sig .tc .vmem S256x256 .f32) (harg21 : arg21.IsWhole)
    (v1 v3 : Elt F .f32) (v104 v105 : Vec F S1x256 .f32) (v107 v112 : FVec F S256x256 .f32) (v114 : FVec F S256x256 .bf16)
    (X5 : BufTy.Contents (Elt F) arg5.view.ty) (X12 : BufTy.Contents (Elt F) arg12.view.ty) (X13 : BufTy.Contents (Elt F) arg13.view.ty)

/-- The whole of a 256 by 256 buffer. -/
abbrev whole : Rect S256x256 := Rect.unit ![0, 0] S256x256.size inb_S256x256_S256x256_0_0

/-- Rows of the `k`-th chunk of a 2048 by 256 buffer, counted from the start. -/
abbrev rows1 (k : Fin k0_t1_loop.trips) : Rect S2048x256 := Rect.unit (k0_off3 k) S256x256.size (k0_off3_inb k)

/-- The same rows of the value window. -/
abbrev vals1 (k : Fin k0_t1_loop.trips) : Rect S1x2048x256 := Rect.unit (k0_off4 k) S1x256x256.size (k0_off4_inb k)

/-- Rows of the `k`-th chunk of a 2048 by 256 buffer, counted from the end. -/
abbrev rows2 (k : Fin k0_t2_loop.trips) : Rect S2048x256 := Rect.unit (k0_off5 k) S256x256.size (k0_off5_inb k)

/-- The same rows of the value window. -/
abbrev vals2 (k : Fin k0_t2_loop.trips) : Rect S1x2048x256 := Rect.unit (k0_off6 k) S1x256x256.size (k0_off6_inb k)

set_option maxHeartbeats 1000000 in
theorem trip1 (X17 : BufTy.Contents (Elt F) arg17.view.ty) (X18 : BufTy.Contents (Elt F) arg18.view.ty) (X19 : BufTy.Contents (Elt F) arg19.view.ty)
    (k : Fin k0_t1_loop.trips) (f14 : BufTy.Contents (Elt F) arg14.view.ty) (f15 : BufTy.Contents (Elt F) arg15.view.ty) :
    tripL_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X17 X18 X19 k f14 f15
      = ([⟨rows1 k,
            k0_pay20 (arg12.view.readAt (Elt F) (rows1 k).toLoadRect X12)
              (arg13.view.readAt (Elt F) (rows1 k).toLoadRect X13)
              (arg5.view.readAt (Elt F) (vals1 k).toLoadRect X5)
              (arg17.view.readAt (Elt F) whole.toLoadRect X17) (arg15.view.readAt (Elt F) whole.toLoadRect f15)
              (arg18.view.readAt (Elt F) whole.toLoadRect X18)⟩],
         [⟨whole,
            k0_pay21 v104 (arg13.view.readAt (Elt F) (rows1 k).toLoadRect X13)
              (arg5.view.readAt (Elt F) (vals1 k).toLoadRect X5)
              (arg15.view.readAt (Elt F) whole.toLoadRect f15) (arg19.view.readAt (Elt F) whole.toLoadRect X19)⟩]) := by
  unfold tripL_k0_t1 trip_k0_t1
  rfl

set_option maxHeartbeats 1000000 in
theorem trip2 (X20 : BufTy.Contents (Elt F) arg20.view.ty) (X21 : BufTy.Contents (Elt F) arg21.view.ty)
    (k : Fin k0_t2_loop.trips) (f14 : BufTy.Contents (Elt F) arg14.view.ty) (f16 : BufTy.Contents (Elt F) arg16.view.ty) :
    tripL_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X20 X21 k f14 f16
      = ([⟨rows2 k,
            k0_pay22 (arg12.view.readAt (Elt F) (rows2 k).toLoadRect X12)
              (arg16.view.readAt (Elt F) whole.toLoadRect f16) (arg20.view.readAt (Elt F) whole.toLoadRect X20)
              (arg14.view.readAt (Elt F) (rows2 k).toLoadRect f14)⟩],
         [⟨whole,
            k0_pay23 v105 (arg13.view.readAt (Elt F) (rows2 k).toLoadRect X13)
              (arg5.view.readAt (Elt F) (vals2 k).toLoadRect X5)
              (arg16.view.readAt (Elt F) whole.toLoadRect f16) (arg21.view.readAt (Elt F) whole.toLoadRect X21)⟩]) := by
  unfold tripL_k0_t2 trip_k0_t2
  rfl

end Cert.KernelIdeal.Ret

end
-- ==== Proof.RetLoop.lean ====
module

public import Idealize.ShloMosaic.Lib.Claim
public import Idealize.ShloMosaic.Lib.Pipeline.FrameBody
public import Idealize.ShloMosaic.Lib.Pipeline.ValueKit
public import Idealize.ShloMosaic.Lib.WritesUnit
public import Idealize.ShloMosaic.Lib.VecWindow
public import proofs.«01_k».proof.Proof.RetTrip

/-! What a loop that fills a 2048 by 256 buffer chunk by chunk, carrying a 256 by 256 state, leaves in both. -/

@[expose] public section

set_option maxRecDepth 16384

noncomputable section

namespace Cert.KernelIdeal.Ret

open Idealize.ShloMosaic Idealize.ShloMosaic.Pipeline Idealize.ShloMosaic.TcCoe Idealize.SL.Sem
open Cert.KernelIdeal.Gen

/-- A chunk of 256 rows of a 2048 by 256 buffer. -/
abbrev chunk (off : Fin 2 → ℕ) (inb : ∀ a, off a + S256x256.size a ≤ S2048x256.size a) : Rect S2048x256 :=
  Rect.unit off S256x256.size inb

/-- After `m` trips the state buffer holds the `m`-th state, the chunks already visited hold what their trip wrote, and
the others are as they were. -/
theorem loop_reads {F : FTy → Type} {κ sp κ' sp'} {n : ℕ}
    (v14 : View sig κ sp S2048x256 .f32) (v15 : View sig κ' sp' S256x256 .f32)
    (G14 : v14.ty.Contents (Elt F)) (G15 : v15.ty.Contents (Elt F))
    (P : ℕ → List (View.Piece (Elt F) S2048x256 .f32) × List (View.Piece (Elt F) S256x256 .f32))
    (off : Fin n → Fin 2 → ℕ) (inb : ∀ k a, off k a + S256x256.size a ≤ S2048x256.size a) (o : Fin n → ℕ)
    (ho : ∀ k, off k = ![256 * o k, 0]) (hinj : Function.Injective o)
    (a : Fin n → Vec F S256x256 .f32 → Vec F S256x256 .f32 → Vec F S256x256 .f32)
    (b : Fin n → Vec F S256x256 .f32 → Vec F S256x256 .f32) (st : ℕ → Vec F S256x256 .f32)
    (hst0 : v15.read (Elt F) G15 = st 0) (hst : ∀ k : Fin n, st (k.val + 1) = b k (st k.val))
    (h0 : P 0 = ([], []))
    (hs : ∀ k : Fin n, P (k.val + 1)
      = (⟨chunk (off k) (inb k), a k (v15.readAt (Elt F) whole.toLoadRect (v15.writes (Elt F) G15 (P k.val).2))
            (v14.readAt (Elt F) (chunk (off k) (inb k)).toLoadRect (v14.writes (Elt F) G14 (P k.val).1))⟩ :: (P k.val).1,
         ⟨whole, b k (v15.readAt (Elt F) whole.toLoadRect (v15.writes (Elt F) G15 (P k.val).2))⟩ :: (P k.val).2))
    (m : ℕ) (hm : m ≤ n) :
    v15.read (Elt F) (v15.writes (Elt F) G15 (P m).2) = st m
      ∧ (∀ k : Fin n, k.val < m → View.ld (v14.read (Elt F) (v14.writes (Elt F) G14 (P m).1)) (chunk (off k) (inb k))
          = a k (st k.val) (View.ld (v14.read (Elt F) G14) (chunk (off k) (inb k))))
      ∧ (∀ k : Fin n, m ≤ k.val → View.ld (v14.read (Elt F) (v14.writes (Elt F) G14 (P m).1)) (chunk (off k) (inb k))
          = View.ld (v14.read (Elt F) G14) (chunk (off k) (inb k))) := by
  induction m with
  | zero =>
    rw [h0]
    exact ⟨hst0, fun k hk => absurd hk (Nat.not_lt_zero _), fun k _ => rfl⟩
  | succ m ih =>
    obtain ⟨ih1, ih2, ih3⟩ := ih (by omega)
    have hk := hs ⟨m, hm⟩
    have hread : v15.readAt (Elt F) whole.toLoadRect (v15.writes (Elt F) G15 (P m).2) = st m := by
      rw [View.readAt_full]; exact ih1
    have hold : v14.readAt (Elt F) (chunk (off ⟨m, hm⟩) (inb ⟨m, hm⟩)).toLoadRect (v14.writes (Elt F) G14 (P m).1)
        = View.ld (v14.read (Elt F) G14) (chunk (off ⟨m, hm⟩) (inb ⟨m, hm⟩)) := ih3 ⟨m, hm⟩ le_rfl
    dsimp only at hk
    rw [hread, hold] at hk
    have hother : ∀ k : Fin n, k.val ≠ m →
        View.ld (v14.read (Elt F) (v14.writes (Elt F) G14 (P (m + 1)).1)) (chunk (off k) (inb k))
          = View.ld (v14.read (Elt F) (v14.writes (Elt F) G14 (P m).1)) (chunk (off k) (inb k)) := by
      intro k hne
      rw [hk]
      funext x
      have hoo : o k ≠ o ⟨m, hm⟩ := fun e => hne (congrArg Fin.val (hinj e))
      refine View.read_writes_cons_rows_of_not_mem v14 G14 (o := 256 * o ⟨m, hm⟩) (W := 256) (inb ⟨m, hm⟩) _ _ _ (ho ⟨m, hm⟩) rfl ?_
      have e : (((chunk (off k) (inb k)).emb x) (0 : Fin 2)).val = 256 * o k + (x (0 : Fin 2)).val := by
        rw [ValueKit.rect_emb_unit_val]; exact congrArg (· + (x (0 : Fin 2)).val) (congrFun (ho k) 0)
      have hx : (x (0 : Fin 2)).val < 256 := (x (0 : Fin 2)).isLt
      show (((chunk (off k) (inb k)).emb x) (0 : Fin 2)).val < _ ∨ _ ≤ (((chunk (off k) (inb k)).emb x) (0 : Fin 2)).val
      omega
    refine ⟨?_, fun k hkm => ?_, fun k hkm => ?_⟩
    · rw [hk, hst ⟨m, hm⟩]
      exact View.read_writes_full _ _ _ _ _
    · by_cases hne : k.val = m
      · obtain rfl : k = ⟨m, hm⟩ := Fin.ext hne
        rw [hk]
        funext x
        exact View.read_writes_cons_emb _ _ _ _ _ x
      · rw [hother k hne]; exact ih2 k (by omega)
    · rw [hother k (by omega)]; exact ih3 k (by omega)

end Cert.KernelIdeal.Ret

end
-- ==== Proof.RetOut.lean ====
module

public import proofs.«01_k».proof.Proof.RetLoop

/-! The retention body's two loops in closed form: the forward pass over the chunks of a head, then the backward one
added onto it. -/

@[expose] public section

set_option maxRecDepth 16384

noncomputable section

namespace Cert.KernelIdeal.Ret

open Idealize.ShloMosaic Idealize.ShloMosaic.Pipeline Idealize.ShloMosaic.TcCoe Idealize.SL.Sem
open Cert.KernelIdeal.Gen

variable {F : FTy → Type} [FloatOps F]

theorem trips1_eq : k0_t1_loop.trips = 8 := by decide +kernel
theorem trips2_eq : k0_t2_loop.trips = 8 := by decide +kernel

/-- The forward state before chunk `k`. -/
def fwdState (v104 : Vec F S1x256 .f32) (dk s0 : Vec F S256x256 .f32) (K : Vec F S2048x256 .bf16) (V : Vec F S1x2048x256 .bf16) :
    ℕ → Vec F S256x256 .f32
  | 0 => s0
  | k + 1 =>
    if h : k < k0_t1_loop.trips then
      k0_pay21 v104 (View.ld K (rows1 ⟨k, h⟩)) (View.ld V (vals1 ⟨k, h⟩)) (fwdState v104 dk s0 K V k) dk
    else fwdState v104 dk s0 K V k

/-- The backward state before chunk `k`, counted from the end. -/
def bwdState (v105 : Vec F S1x256 .f32) (dk s0 : Vec F S256x256 .f32) (K : Vec F S2048x256 .bf16) (V : Vec F S1x2048x256 .bf16) :
    ℕ → Vec F S256x256 .f32
  | 0 => s0
  | k + 1 =>
    if h : k < k0_t2_loop.trips then
      k0_pay23 v105 (View.ld K (rows2 ⟨k, h⟩)) (View.ld V (vals2 ⟨k, h⟩)) (bwdState v105 dk s0 K V k) dk
    else bwdState v105 dk s0 K V k

/-- What the forward pass writes at chunk `k`. -/
def fwdOut (Q K : Vec F S2048x256 .bf16) (V : Vec F S1x2048x256 .bf16) (dmat dq : Vec F S256x256 .f32)
    (st : ℕ → Vec F S256x256 .f32) (k : Fin k0_t1_loop.trips) : Vec F S256x256 .f32 :=
  k0_pay20 (View.ld Q (rows1 k)) (View.ld K (rows1 k)) (View.ld V (vals1 k)) dmat (st k.val) dq

/-- The chunk of a row, counted from the start. -/
def fwdChunk (y : S2048x256.Idx) : Fin k0_t1_loop.trips :=
  ⟨(y (0 : Fin 2)).val / 256, by
    have h : (y (0 : Fin 2)).val < 2048 := (y (0 : Fin 2)).isLt
    rw [trips1_eq]; omega⟩

/-- The chunk of a row, counted from the end. -/
def bwdChunk (y : S2048x256.Idx) : Fin k0_t2_loop.trips :=
  ⟨7 - (y (0 : Fin 2)).val / 256, by rw [trips2_eq]; omega⟩

/-- A row's place in its chunk. -/
def inChunk (y : S2048x256.Idx) : S256x256.Idx := fun a => match a with
  | ⟨0, _⟩ => ⟨(y (0 : Fin 2)).val % 256, Nat.mod_lt _ (by decide)⟩
  | ⟨1, _⟩ => ⟨(y (1 : Fin 2)).val, (y (1 : Fin 2)).isLt⟩

/-- What the two passes leave in the output buffer. -/
def both (Q K : Vec F S2048x256 .bf16) (V : Vec F S1x2048x256 .bf16) (dmat dqf dqb : Vec F S256x256 .f32)
    (sf sb : ℕ → Vec F S256x256 .f32) : Vec F S2048x256 .f32 := fun y =>
  k0_pay22 (View.ld Q (rows2 (bwdChunk y))) (sb (bwdChunk y).val) dqb (fwdOut Q K V dmat dqf sf (fwdChunk y)) (inChunk y)

theorem fwdChunk_emb (y : S2048x256.Idx) : (rows1 (fwdChunk y)).emb (inChunk y) = y := by
  funext a
  refine Fin.ext ((ValueKit.rect_emb_unit_val _ _ _ _ _).trans
    ((congrArg (· + (inChunk y a).val) (congrFun (k0_off3_eq (fwdChunk y)) a)).trans ?_))
  match a with
  | ⟨0, _⟩ => show 256 * ((y (0 : Fin 2)).val / 256) + (y (0 : Fin 2)).val % 256 = (y (0 : Fin 2)).val; omega
  | ⟨1, _⟩ => exact Nat.zero_add _

theorem rows2_eq (y : S2048x256.Idx) : k0_off5 (bwdChunk y) = k0_off3 (fwdChunk y) := by
  rw [k0_off3_eq, k0_off5_eq]
  have h : (y (0 : Fin 2)).val < 2048 := (y (0 : Fin 2)).isLt
  have e : 1792 - 256 * (7 - (y (0 : Fin 2)).val / 256) = 256 * ((y (0 : Fin 2)).val / 256) := by omega
  show ![1792 - 256 * (7 - (y (0 : Fin 2)).val / 256), 0] = ![256 * ((y (0 : Fin 2)).val / 256), 0]
  rw [e]

theorem ld_congr {off off' : Fin 2 → ℕ} (h : off = off') (inb inb') (X : Vec F S2048x256 .f32) :
    (View.ld X (chunk off inb) : Vec F S256x256 .f32) = View.ld X (chunk off' inb') := by
  subst h; rfl

theorem bwdChunk_emb (y : S2048x256.Idx) : (rows2 (bwdChunk y)).emb (inChunk y) = y := by
  funext a
  refine Fin.ext ((ValueKit.rect_emb_unit_val _ _ _ _ _).trans
    ((congrArg (· + (inChunk y a).val) (congrFun ((rows2_eq y).trans (k0_off3_eq (fwdChunk y))) a)).trans ?_))
  match a with
  | ⟨0, _⟩ => show 256 * ((y (0 : Fin 2)).val / 256) + (y (0 : Fin 2)).val % 256 = (y (0 : Fin 2)).val; omega
  | ⟨1, _⟩ => exact Nat.zero_add _

/-- Reading a chunk counted from the end is reading it counted from the start. -/
theorem ld_chunk (X : Vec F S2048x256 .f32) (y : S2048x256.Idx) :
    (View.ld X (rows2 (bwdChunk y)) : Vec F S256x256 .f32) = View.ld X (rows1 (fwdChunk y)) := ld_congr (rows2_eq y) _ _ X

variable (𝒱 : Variants) (c : Dev nD) (bd : Option 𝒱.V) (i : grid0.Coords)
    (arg2 : Memref sig .tc .smem S2x8 .f32) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S1x2048x256 .bf16) (harg5 : arg5.IsWhole)
    (arg6 : Memref sig .tc .vmem S1x2048x256 .bf16) (harg6 : arg6.IsWhole)
    (arg7 : Memref sig .tc .vmem S1x256x256 .bf16) (harg7 : arg7.IsWhole)
    (arg8 : Memref sig .tc .vmem S1x256x256 .bf16) (harg8 : arg8.IsWhole)
    (arg9 : Memref sig .tc .vmem S2048x256 .f32) (harg9 : arg9.IsWhole)
    (arg10 : Memref sig .tc .vmem S2048x256 .f32) (harg10 : arg10.IsWhole)
    (arg11 : Memref sig .tc .vmem S1x2048x256 .bf16) (harg11 : arg11.IsWhole)
    (arg12 : Memref sig .tc .vmem S2048x256 .bf16) (harg12 : arg12.IsWhole)
    (arg13 : Memref sig .tc .vmem S2048x256 .bf16) (harg13 : arg13.IsWhole)
    (arg14 : Memref sig .tc .vmem S2048x256 .f32) (harg14 : arg14.IsWhole)
    (arg15 : Memref sig .tc .vmem S256x256 .f32) (harg15 : arg15.IsWhole)
    (arg16 : Memref sig .tc .vmem S256x256 .f32) (harg16 : arg16.IsWhole)
    (arg17 : Memref sig .tc .vmem S256x256 .f32) (harg17 : arg17.IsWhole)
    (arg18 : Memref sig .tc .vmem S256x256 .f32) (harg18 : arg18.IsWhole)
    (arg19 : Memref sig .tc .vmem S256x256 .f32) (harg19 : arg19.IsWhole)
    (arg20 : Memref sig .tc .vmem S256x256 .f32) (harg20 : arg20.IsWhole)
    (arg21 : Memref sig .tc .vmem S256x256 .f32) (harg21 : arg21.IsWhole)
    (v1 v3 : Elt F .f32) (v104 v105 : Vec F S1x256 .f32) (v107 v112 : FVec F S256x256 .f32) (v114 : FVec F S256x256 .bf16)
    (X5 : BufTy.Contents (Elt F) arg5.view.ty) (X12 : BufTy.Contents (Elt F) arg12.view.ty) (X13 : BufTy.Contents (Elt F) arg13.view.ty)

set_option maxHeartbeats 1000000 in
theorem loop1_reads (X17 : BufTy.Contents (Elt F) arg17.view.ty) (X18 : BufTy.Contents (Elt F) arg18.view.ty) (X19 : BufTy.Contents (Elt F) arg19.view.ty)
    (G14 : BufTy.Contents (Elt F) arg14.view.ty) (G15 : BufTy.Contents (Elt F) arg15.view.ty) (k : Fin k0_t1_loop.trips) :
    View.ld (arg14.view.read (Elt F) (arg14.view.writes (Elt F) G14 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X17 X18 X19 G14 G15 k0_t1_loop.trips).1)) (rows1 k)
      = fwdOut (arg12.view.read (Elt F) X12) (arg13.view.read (Elt F) X13) (arg5.view.read (Elt F) X5) (arg17.view.read (Elt F) X17) (arg18.view.read (Elt F) X18) (fwdState v104 (arg19.view.read (Elt F) X19) (arg15.view.read (Elt F) G15) (arg13.view.read (Elt F) X13) (arg5.view.read (Elt F) X5)) k := by
  refine ((loop_reads arg14.view arg15.view G14 G15 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X17 X18 X19 G14 G15) k0_off3 k0_off3_inb (fun k => k.val)
    k0_off3_eq Fin.val_injective
    (fun k st _ => k0_pay20 (View.ld (arg12.view.read (Elt F) X12) (rows1 k)) (View.ld (arg13.view.read (Elt F) X13) (rows1 k)) (View.ld (arg5.view.read (Elt F) X5) (vals1 k)) (arg17.view.read (Elt F) X17) st (arg18.view.read (Elt F) X18))
    (fun k st => k0_pay21 v104 (View.ld (arg13.view.read (Elt F) X13) (rows1 k)) (View.ld (arg5.view.read (Elt F) X5) (vals1 k)) st (arg19.view.read (Elt F) X19))
    (fwdState v104 (arg19.view.read (Elt F) X19) (arg15.view.read (Elt F) G15) (arg13.view.read (Elt F) X13) (arg5.view.read (Elt F) X5)) rfl (fun k => dif_pos k.isLt) rfl (fun k => ?_) _ le_rfl).2.1 k k.isLt)
  rw [pb_k0_t1_succ, trip1]
  simp only [View.readAt_full]
  rfl

set_option maxHeartbeats 1000000 in
theorem loop2_reads (X20 : BufTy.Contents (Elt F) arg20.view.ty) (X21 : BufTy.Contents (Elt F) arg21.view.ty)
    (G14 : BufTy.Contents (Elt F) arg14.view.ty) (G16 : BufTy.Contents (Elt F) arg16.view.ty) (k : Fin k0_t2_loop.trips) :
    View.ld (arg14.view.read (Elt F) (arg14.view.writes (Elt F) G14 (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X20 X21 G14 G16 k0_t2_loop.trips).1)) (rows2 k)
      = k0_pay22 (View.ld (arg12.view.read (Elt F) X12) (rows2 k)) (bwdState v105 (arg21.view.read (Elt F) X21) (arg16.view.read (Elt F) G16) (arg13.view.read (Elt F) X13) (arg5.view.read (Elt F) X5) k.val) (arg20.view.read (Elt F) X20)
          (View.ld (arg14.view.read (Elt F) G14) (rows2 k)) := by
  refine ((loop_reads arg14.view arg16.view G14 G16 (pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X20 X21 G14 G16) k0_off5 k0_off5_inb (fun k => 7 - k.val)
    (fun k => ?_) (fun a b h => ?_)
    (fun k st old => k0_pay22 (View.ld (arg12.view.read (Elt F) X12) (rows2 k)) st (arg20.view.read (Elt F) X20) old)
    (fun k st => k0_pay23 v105 (View.ld (arg13.view.read (Elt F) X13) (rows2 k)) (View.ld (arg5.view.read (Elt F) X5) (vals2 k)) st (arg21.view.read (Elt F) X21))
    (bwdState v105 (arg21.view.read (Elt F) X21) (arg16.view.read (Elt F) G16) (arg13.view.read (Elt F) X13) (arg5.view.read (Elt F) X5)) rfl (fun k => dif_pos k.isLt) rfl (fun k => ?_) _ le_rfl).2.1 k k.isLt)
  · rw [k0_off5_eq, Nat.mul_sub]
  · have ha : a.val < 8 := trips2_eq ▸ a.isLt
    have hb : b.val < 8 := trips2_eq ▸ b.isLt
    exact Fin.ext (by dsimp only at h; omega)
  · rw [pb_k0_t2_succ, trip2]
    simp only [View.readAt_full]
    rfl

set_option maxHeartbeats 1000000 in
/-- The output buffer after both loops. -/
theorem loops_read (X17 : BufTy.Contents (Elt F) arg17.view.ty) (X18 : BufTy.Contents (Elt F) arg18.view.ty) (X19 : BufTy.Contents (Elt F) arg19.view.ty)
    (X20 : BufTy.Contents (Elt F) arg20.view.ty) (X21 : BufTy.Contents (Elt F) arg21.view.ty)
    (G14 : BufTy.Contents (Elt F) arg14.view.ty) (G15 : BufTy.Contents (Elt F) arg15.view.ty) (G16 : BufTy.Contents (Elt F) arg16.view.ty) :
    arg14.view.read (Elt F) (arg14.view.writes (Elt F) G14
        ((pb_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X20 X21 (arg14.view.writes (Elt F) G14 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X17 X18 X19 G14 G15 k0_t1_loop.trips).1) G16 k0_t2_loop.trips).1
          ++ (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X17 X18 X19 G14 G15 k0_t1_loop.trips).1))
      = both (arg12.view.read (Elt F) X12) (arg13.view.read (Elt F) X13) (arg5.view.read (Elt F) X5) (arg17.view.read (Elt F) X17) (arg18.view.read (Elt F) X18) (arg20.view.read (Elt F) X20) (fwdState v104 (arg19.view.read (Elt F) X19) (arg15.view.read (Elt F) G15) (arg13.view.read (Elt F) X13) (arg5.view.read (Elt F) X5))
          (bwdState v105 (arg21.view.read (Elt F) X21) (arg16.view.read (Elt F) G16) (arg13.view.read (Elt F) X13) (arg5.view.read (Elt F) X5)) := by
  funext y
  rw [View.writes_append]
  have h2 := congrFun (loop2_reads 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X20 X21
    (arg14.view.writes (Elt F) G14 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X17 X18 X19 G14 G15 k0_t1_loop.trips).1) G16 (bwdChunk y)) (inChunk y)
  rw [ld_chunk (arg14.view.read (Elt F) (arg14.view.writes (Elt F) G14 (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1 v3 v104 v105 v107 v112 v114 X5 X12 X13 X17 X18 X19 G14 G15 k0_t1_loop.trips).1)) y, loop1_reads] at h2
  refine Eq.trans (congrArg _ (bwdChunk_emb y).symm) (h2.trans rfl)

end Cert.KernelIdeal.Ret

end
-- ==== Proof.RetPays.lean ====
module

public import proofs.«01_k».proof.Proof.RetSpec
public import proofs.«01_k».proof.Proof.RetOut
public import Idealize.ShloMosaic.Lib.Pointwise

/-! The retention body's computations, element by element at exact arithmetic. -/

@[expose] public section

set_option maxRecDepth 16384
set_option maxHeartbeats 1000000

noncomputable section

namespace Cert.KernelIdeal.Ret

open Idealize.ShloMosaic Idealize.ShloMosaic.TcCoe Idealize.SL.Sem
open Cert.KernelIdeal Cert.KernelIdeal.Gen Cert.Retention

theorem pay2_at (x : Vec Ideal S1x2048x256 .bf16) (C S : Vec Ideal S2048x256 .f32) (n : Fin 2048) (d : Fin 256) :
    k0_pay2 (F := Ideal) x C S (ix2 n d) = x (ix3 0 n d) * C (ix2 n d) + x (ix3 0 n (swap d)) * S (ix2 n d) := by
  pointwise [k0_pay2]
  unfold swap
  split <;> rfl

theorem pay6_at (x : Vec Ideal S1x2048x256 .bf16) (C S : Vec Ideal S2048x256 .f32) (n : Fin 2048) (d : Fin 256) :
    k0_pay6 (F := Ideal) (k0_pay4 x) (k0_pay5 x C) S (ix2 n d) = k0_pay2 (F := Ideal) x C S (ix2 n d) * Ideal.ofBits .f32 0x3D800000#32 := by
  pointwise [k0_pay6, k0_pay5, k0_pay4, k0_pay3, k0_pay2]

/-- The decay within a block, both directions added. -/
theorem pay7_at (l l' : EReal) (hl : l ≤ 0) (hl' : l' ≤ 0) (i j : Fin 256) :
    k0_pay7 (F := Ideal) l l' (ix2 i j) = ((if j.val ≤ i.val then decay l ^ (i.val - j.val) else 0 : ℝ) : EReal)
      + ((if i.val ≤ j.val then decay l' ^ (j.val - i.val) else 0 : ℝ) : EReal) := by
  pointwise [k0_pay7]
  have e : FloatOps.sitofp (F := Ideal) FTy.f32 (IntOp.subi (BitVec.ofNat 32 i.val) (BitVec.ofNat 32 j.val)) = gap i.val j.val :=
    word_sub i.val j.val (by omega) (by omega)
  rw [e, neg_gap]
  have c : (gap i.val j.val ≤ 0) = (0 ≤ gap j.val i.val) := propext ((gap_nonpos _ _).trans (gap_nonneg _ _).symm)
  simp only [c]
  rw [dec_at l hl, dec_at l' hl']

theorem pay10_at (l : EReal) (hl : l ≤ 0) (i j : Fin 256) :
    k0_pay10 (k0_pay9 (F := Ideal) l) (ix2 i j) = ((decay l ^ (i.val + 1) : ℝ) : EReal) := by
  pointwise [k0_pay10, k0_pay9, k0_pay8]
  rw [word_at i.val (by omega), add_one_coe, exp_mul l hl]

theorem pay11_at (l : EReal) (hl : l ≤ 0) (i j : Fin 256) :
    k0_pay11 (F := Ideal) l k0_pay8 (ix2 i j) = ((decay l ^ (255 - i.val) : ℝ) : EReal) := by
  pointwise [k0_pay11, k0_pay8]
  rw [word_at i.val (by omega), c255, coe_sub_coe, exp_gap l hl _ _ (by omega)]

theorem pay12_at (l : EReal) (hl : l ≤ 0) (i j : Fin 256) :
    k0_pay12 (F := Ideal) l k0_pay8 (ix2 i j) = ((decay l ^ (256 - i.val) : ℝ) : EReal) := by
  pointwise [k0_pay12, k0_pay8]
  rw [word_at i.val (by omega), c256, coe_sub_coe, exp_gap l hl _ _ (by omega)]

theorem pay13_at (l : EReal) (hl : l ≤ 0) (i j : Fin 256) :
    k0_pay13 (F := Ideal) l k0_pay8 (ix2 i j) = ((decay l ^ i.val : ℝ) : EReal) := by
  pointwise [k0_pay13, k0_pay8]
  rw [word_at i.val (by omega), exp_mul l hl]

/-- The state the context leaves. -/
theorem pay17_at (l : EReal) (hl : l ≤ 0) (kc vc : Vec Ideal S1x256x256 .bf16) (d e : Fin 256) :
    k0_pay17 (F := Ideal) l k0_pay14 (k0_pay15 kc) (k0_pay16 vc) (ix2 d e)
      = ∑ j : Fin 256, kc (ix3 0 j d) * Ideal.ofBits .f32 0x3D800000#32 * ((decay l ^ (255 - j.val) : ℝ) : EReal) * vc (ix3 0 j e) := by
  pointwise [k0_pay17, k0_pay14, k0_pay15, k0_pay16]
  refine Finset.sum_congr rfl fun j _ => ?_
  rw [word_at j.val (by omega), c255, coe_sub_coe, exp_gap l hl _ _ (by omega)]

/-- The state the context leaves, read from its end. -/
theorem pay18_at (l : EReal) (hl : l ≤ 0) (kc vc : Vec Ideal S1x256x256 .bf16) (d e : Fin 256) :
    k0_pay18 (F := Ideal) l k0_pay14 (k0_pay15 kc) (k0_pay16 vc) (ix2 d e)
      = ∑ j : Fin 256, kc (ix3 0 j d) * Ideal.ofBits .f32 0x3D800000#32 * ((decay l ^ j.val : ℝ) : EReal) * vc (ix3 0 j e) := by
  pointwise [k0_pay18, k0_pay14, k0_pay15, k0_pay16]
  refine Finset.sum_congr rfl fun j _ => ?_
  rw [word_at j.val (by omega), exp_mul l hl]

theorem pay20_at (q k : Vec Ideal S256x256 .bf16) (v : Vec Ideal S1x256x256 .bf16) (D S E : Vec Ideal S256x256 .f32) (i e : Fin 256) :
    k0_pay20 (F := Ideal) q k v D S E (ix2 i e)
      = (∑ j : Fin 256, (∑ d : Fin 256, q (ix2 i d) * k (ix2 j d)) * D (ix2 i j) * v (ix3 0 j e))
        + (∑ d : Fin 256, q (ix2 i d) * S (ix2 d e)) * E (ix2 i e) := by
  pointwise [k0_pay20, k0_pay19]

theorem pay21_at (r : Vec Ideal S1x256 .f32) (k : Vec Ideal S256x256 .bf16) (v : Vec Ideal S1x256x256 .bf16) (S E : Vec Ideal S256x256 .f32) (d e : Fin 256) :
    k0_pay21 (F := Ideal) r k v S E (ix2 d e)
      = S (ix2 d e) * r (ix2 0 e) + ∑ j : Fin 256, k (ix2 j d) * E (ix2 j d) * v (ix3 0 j e) := by
  pointwise [k0_pay21, k0_pay19]

theorem pay22_at (q : Vec Ideal S256x256 .bf16) (S E O : Vec Ideal S256x256 .f32) (i e : Fin 256) :
    k0_pay22 (F := Ideal) q S E O (ix2 i e) = O (ix2 i e) + (∑ d : Fin 256, q (ix2 i d) * S (ix2 d e)) * E (ix2 i e) := by
  pointwise [k0_pay22]

theorem pay23_at (r : Vec Ideal S1x256 .f32) (k : Vec Ideal S256x256 .bf16) (v : Vec Ideal S1x256x256 .bf16) (S E : Vec Ideal S256x256 .f32) (d e : Fin 256) :
    k0_pay23 (F := Ideal) r k v S E (ix2 d e)
      = S (ix2 d e) * r (ix2 0 e) + ∑ j : Fin 256, k (ix2 j d) * E (ix2 j d) * v (ix3 0 j e) := by
  pointwise [k0_pay23]

theorem out_at (y : Vec Ideal S2048x256 .f32) (g : Vec Ideal S1x2048x256 .bf16) (n : Fin 2048) (d : Fin 256) :
    k0_pay1 (F := Ideal) (k0_pay24 y) g (ix3 0 n d) = gated (g (ix3 0 n d)) (fun x => y (ix2 n x)) d := by
  pointwise [k0_pay1, k0_pay24, gated]

/-! The chunks of the buffers that the loops read. -/

theorem rows1_at {e : EltTy} (X : Vec Ideal S2048x256 e) (k : Fin k0_t1_loop.trips) (hk : k.val < 8) (j d : Fin 256) :
    View.ld X (rows1 k) (ix2 j d) = X (ix2 ⟨256 * k.val + j.val, by omega⟩ d) := by
  refine congrArg X (funext fun a => Fin.ext ((ValueKit.rect_emb_unit_val _ _ _ _ _).trans
    ((congrArg (· + ((ix2 j d : S256x256.Idx) a).val) (congrFun (k0_off3_eq k) a)).trans ?_)))
  match a with
  | ⟨0, _⟩ => rfl
  | ⟨1, _⟩ => exact Nat.zero_add _

theorem vals1_at {e : EltTy} (X : Vec Ideal S1x2048x256 e) (k : Fin k0_t1_loop.trips) (hk : k.val < 8) (j d : Fin 256) :
    View.ld X (vals1 k) (ix3 0 j d) = X (ix3 0 ⟨256 * k.val + j.val, by omega⟩ d) := by
  refine congrArg X (funext fun a => Fin.ext ((ValueKit.rect_emb_unit_val _ _ _ _ _).trans
    ((congrArg (· + ((ix3 0 j d : S1x256x256.Idx) a).val) (congrFun (k0_off4_eq k) a)).trans ?_)))
  match a with
  | ⟨0, _⟩ => rfl
  | ⟨1, _⟩ => rfl
  | ⟨2, _⟩ => exact Nat.zero_add _

theorem rows2_at {e : EltTy} (X : Vec Ideal S2048x256 e) (k : Fin k0_t2_loop.trips) (hk : k.val < 8) (j d : Fin 256) :
    View.ld X (rows2 k) (ix2 j d) = X (ix2 ⟨1792 - 256 * k.val + j.val, by omega⟩ d) := by
  refine congrArg X (funext fun a => Fin.ext ((ValueKit.rect_emb_unit_val _ _ _ _ _).trans
    ((congrArg (· + ((ix2 j d : S256x256.Idx) a).val) (congrFun (k0_off5_eq k) a)).trans ?_)))
  match a with
  | ⟨0, _⟩ => rfl
  | ⟨1, _⟩ => exact Nat.zero_add _

theorem vals2_at {e : EltTy} (X : Vec Ideal S1x2048x256 e) (k : Fin k0_t2_loop.trips) (hk : k.val < 8) (j d : Fin 256) :
    View.ld X (vals2 k) (ix3 0 j d) = X (ix3 0 ⟨1792 - 256 * k.val + j.val, by omega⟩ d) := by
  refine congrArg X (funext fun a => Fin.ext ((ValueKit.rect_emb_unit_val _ _ _ _ _).trans
    ((congrArg (· + ((ix3 0 j d : S1x256x256.Idx) a).val) (congrFun (k0_off6_eq k) a)).trans ?_)))
  match a with
  | ⟨0, _⟩ => rfl
  | ⟨1, _⟩ => rfl
  | ⟨2, _⟩ => exact Nat.zero_add _

/-- A row of a table of 256 rows. -/
theorem row_at {e : EltTy} (X : Vec Ideal S256x256 e) (r : Fin 256) (off : Fin 2 → ℕ) (h : off = ![r.val, 0]) (inb) (d : Fin 256) :
    View.ld X (Rect.unit (s := S256x256) off S1x256.size inb) (ix2 0 d) = X (ix2 r d) := by
  subst h
  refine congrArg X (funext fun a => Fin.ext ((ValueKit.rect_emb_unit_val _ _ _ _ _).trans ?_))
  match a with
  | ⟨0, _⟩ => rfl
  | ⟨1, _⟩ => exact Nat.zero_add _

end Cert.KernelIdeal.Ret

end
-- ==== Proof.RetRun.lean ====
module

public import proofs.«01_k».proof.Proof.Gen.KernelIdeal.Frame
public import proofs.«01_k».proof.Proof.RetOut

/-! The retention call's body, run: what it leaves in its output block and that it leaves its inputs alone. -/

@[expose] public section

set_option maxRecDepth 16384

noncomputable section

namespace Cert.KernelIdeal.Ret

open Idealize.ShloMosaic Idealize.ShloMosaic.Pipeline Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- A head's forward log decay, and its backward one. -/
def fwdLog (i : grid0.Coords) (x0 : Vec F S2x8 .f32) : Elt F .f32 :=
  View.ld x0 (Rect.unit (k0_off1 i) S1x1.size (k0_off1_inb i)) (Shape.Idx.first (Nat.lt_of_lt_of_eq Nat.one_pos numel1_S1x1.symm))
def bwdLog (i : grid0.Coords) (x0 : Vec F S2x8 .f32) : Elt F .f32 :=
  View.ld x0 (Rect.unit (k0_off2 i) S1x1.size (k0_off2_inb i)) (Shape.Idx.first (Nat.lt_of_lt_of_eq Nat.one_pos numel1_S1x1.symm))

/-- The two passes before the normalisation, from a head's blocks and its two log decays. -/
def passes (l l' : Elt F .f32) (x1 x2 x3 : Vec F S1x2048x256 .bf16) (x5 x6 : Vec F S1x256x256 .bf16)
    (x7 x8 : Vec F S2048x256 .f32) : Vec F S2048x256 .f32 :=
  both (k0_pay2 x1 x7 x8) (k0_pay6 (k0_pay4 x2) (k0_pay5 x2 x7) x8) x3 (k0_pay7 l l') (k0_pay10 (k0_pay9 l)) (k0_pay12 l' k0_pay8)
    (fwdState (View.ld (k0_pay10 (k0_pay9 l)) (Rect.unit (s := S256x256) ![255, 0] S1x256.size inb_S256x256_S1x256_255_0)) (k0_pay11 l k0_pay8)
      (k0_pay17 l k0_pay14 (k0_pay15 x5) (k0_pay16 x6)) (k0_pay6 (k0_pay4 x2) (k0_pay5 x2 x7) x8) x3)
    (bwdState (View.ld (k0_pay12 l' k0_pay8) (Rect.unit (s := S256x256) ![0, 0] S1x256.size inb_S256x256_S1x256_0_0)) (k0_pay13 l' k0_pay8)
      (k0_pay18 l' k0_pay14 (k0_pay15 x5) (k0_pay16 x6)) (k0_pay6 (k0_pay4 x2) (k0_pay5 x2 x7) x8) x3)

/-- What the body leaves in its output block. -/
def result (i : grid0.Coords) (x0 : Vec F S2x8 .f32) (x1 x2 x3 x4 : Vec F S1x2048x256 .bf16) (x5 x6 : Vec F S1x256x256 .bf16)
    (x7 x8 : Vec F S2048x256 .f32) : Vec F S1x2048x256 .bf16 :=
  k0_pay1 (k0_pay24 (passes (fwdLog i x0) (bwdLog i x0) x1 x2 x3 x5 x6 x7 x8)) x4

/-! Reads of a whole buffer after one store of all of it, and loads of the whole of a block. -/

theorem read_one256 {κ sp e} (v : View sig κ sp S256x256 e) (f : v.ty.Contents (Elt F)) (inb) (w : S256x256.Idx → Elt F e) :
    v.read (Elt F) (v.writes (Elt F) f [⟨Rect.unit (s := S256x256) ![0, 0] ![256, 256] inb, w⟩]) = w :=
  View.read_writes_full v f inb w []

theorem read_one2048 {κ sp e} (v : View sig κ sp S2048x256 e) (f : v.ty.Contents (Elt F)) (inb) (w : S2048x256.Idx → Elt F e) :
    v.read (Elt F) (v.writes (Elt F) f [⟨Rect.unit (s := S2048x256) ![0, 0] ![2048, 256] inb, w⟩]) = w :=
  View.read_writes_full v f inb w []

theorem ld_seq {e} (x : Vec F S1x2048x256 e) (inb) :
    (View.ld x (Rect.unit (s := S1x2048x256) ![0, 0, 0] ![1, 2048, 256] inb) : S1x2048x256.Idx → Elt F e) = x :=
  View.ld_unit_lit inb x (by decide)

theorem ld_table {e} (x : Vec F S2048x256 e) (inb) :
    (View.ld x (Rect.unit (s := S2048x256) ![0, 0] ![2048, 256] inb) : S2048x256.Idx → Elt F e) = x :=
  View.ld_unit_lit inb x (by decide)

theorem ld_ctx {e} (x : Vec F S1x256x256 e) (inb) :
    (View.ld x (Rect.unit (s := S1x256x256) ![0, 0, 0] ![1, 256, 256] inb) : S1x256x256.Idx → Elt F e) = x :=
  View.ld_unit_lit inb x (by decide)

set_option maxHeartbeats 1000000 in
theorem body_run (c : Dev nD) (i : grid0.Coords)
    (arg2 : Memref sig .tc .smem S2x8 .f32) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S1x2048x256 .bf16) (harg5 : arg5.IsWhole)
    (arg6 : Memref sig .tc .vmem S1x2048x256 .bf16) (harg6 : arg6.IsWhole)
    (arg7 : Memref sig .tc .vmem S1x256x256 .bf16) (harg7 : arg7.IsWhole)
    (arg8 : Memref sig .tc .vmem S1x256x256 .bf16) (harg8 : arg8.IsWhole)
    (arg9 : Memref sig .tc .vmem S2048x256 .f32) (harg9 : arg9.IsWhole)
    (arg10 : Memref sig .tc .vmem S2048x256 .f32) (harg10 : arg10.IsWhole)
    (arg11 : Memref sig .tc .vmem S1x2048x256 .bf16) (harg11 : arg11.IsWhole)
    (arg12 : Memref sig .tc .vmem S2048x256 .bf16) (harg12 : arg12.IsWhole)
    (arg13 : Memref sig .tc .vmem S2048x256 .bf16) (harg13 : arg13.IsWhole)
    (arg14 : Memref sig .tc .vmem S2048x256 .f32) (harg14 : arg14.IsWhole)
    (arg15 : Memref sig .tc .vmem S256x256 .f32) (harg15 : arg15.IsWhole)
    (arg16 : Memref sig .tc .vmem S256x256 .f32) (harg16 : arg16.IsWhole)
    (arg17 : Memref sig .tc .vmem S256x256 .f32) (harg17 : arg17.IsWhole)
    (arg18 : Memref sig .tc .vmem S256x256 .f32) (harg18 : arg18.IsWhole)
    (arg19 : Memref sig .tc .vmem S256x256 .f32) (harg19 : arg19.IsWhole)
    (arg20 : Memref sig .tc .vmem S256x256 .f32) (harg20 : arg20.IsWhole)
    (arg21 : Memref sig .tc .vmem S256x256 .f32) (harg21 : arg21.IsWhole)
    (x0 : Vec F S2x8 .f32) (x1 : Vec F S1x2048x256 .bf16) (x2 : Vec F S1x2048x256 .bf16) (x3 : Vec F S1x2048x256 .bf16) (x4 : Vec F S1x2048x256 .bf16) (x5 : Vec F S1x256x256 .bf16) (x6 : Vec F S1x256x256 .bf16) (x7 : Vec F S2048x256 .f32) (x8 : Vec F S2048x256 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (result i x0 x1 x2 x3 x4 x5 x6 x7 x8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)) -∗ K ⟨⟩))
      ⊢ wp frame (wpE (defs₀ (F := F)) Variants.none c none) E (cc0_retention i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_retention_eq_skeleton]; unfold cc0_retention_skel
  simp only [k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    refine (View.read_writes_full _ _ _ _ _).trans ?_
    unfold result passes
    refine congrArg₂ k0_pay1 (congrArg k0_pay24 ?_) ?_
    · refine (View.readAt_full _ _ _).trans ((loops_read Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ _ _ _ _ _ _ _ _ _ _ _ _).trans ?_)
      unfold body_run.sl.HS9_1 body_run.sl.HS7_1 body_run.sl.HS5_1 body_run.sl.HS4_1 body_run.sl.HS3_1 body_run.sl.HS1_1 body_run.sl.HS0_1
      unfold body_run.sl.v105 body_run.sl.v104
      unfold body_run.sl.HS8_1 body_run.sl.HS6_1
      unfold body_run.sl.r_7
      unfold body_run.sl.r_6
      unfold body_run.sl.r_5
      unfold body_run.sl.r_4
      unfold body_run.sl.r_3
      unfold body_run.sl.r_2
      unfold body_run.sl.r_1
      unfold body_run.sl.r
      simp only [View.read_writes_full, View.readAt_full, View.readAt_eq_ld, View.readCov, harg2.read_unread, harg3.read_unread, harg4.read_unread, harg5.read_unread, harg6.read_unread, harg7.read_unread, harg8.read_unread, harg9.read_unread, harg10.read_unread]
      simp only [read_one256, read_one2048, ld_seq, ld_table, ld_ctx]
      rfl
    · exact (View.readAt_full _ _ _).trans (harg6.read_unread _)
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [HS7]
  · iexists _, _; isplitr; swap; · iexact HS7
    ipureintro; rfl
  isplitl [HS8]
  · iexists _, _; isplitr; swap; · iexact HS8
    ipureintro; rfl
  iexists _, _; isplitr; swap; · iexact HS9
  ipureintro; rfl

end Cert.KernelIdeal.Ret

end
-- ==== Proof.RetPasses.lean ====
module

public import proofs.«01_k».proof.Proof.RetPays
public import proofs.«01_k».proof.Proof.RetRun

/-! The retention body's two passes compute the retention of a head in its two directions. -/

@[expose] public section

set_option maxRecDepth 16384
set_option maxHeartbeats 1000000

noncomputable section

namespace Cert.KernelIdeal.Ret

open Idealize.ShloMosaic Idealize.ShloMosaic.TcCoe Idealize.SL.Sem
open Cert.KernelIdeal Cert.KernelIdeal.Gen Cert.Retention

variable (K : Vec Ideal S2048x256 .bf16) (V : Vec Ideal S1x2048x256 .bf16) (k v : ℕ → Fin 256 → ℝ)
    (hK : ∀ (n : Fin 2048) (d : Fin 256), K (ix2 n d) = ((k n.val d : ℝ) : EReal))
    (hV : ∀ (n : Fin 2048) (d : Fin 256), V (ix3 0 n d) = ((v n.val d : ℝ) : EReal))

include hK hV

/-- The forward state before chunk `c` is the state after the tokens before it. -/
theorem fwdState_at (γ : ℝ) (s0 : Fin 256 → Fin 256 → ℝ) (r : Vec Ideal S1x256 .f32) (hr : ∀ e, r (ix2 0 e) = ((γ ^ 256 : ℝ) : EReal))
    (D S : Vec Ideal S256x256 .f32) (hD : ∀ j d, D (ix2 j d) = ((γ ^ (255 - j.val) : ℝ) : EReal))
    (hS : ∀ d e, S (ix2 d e) = ((s0 d e : ℝ) : EReal)) (c : ℕ) (hc : c ≤ 8) (d e : Fin 256) :
    fwdState (F := Ideal) r D S K V c (ix2 d e) = ((st γ s0 k v (256 * c) d e : ℝ) : EReal) := by
  induction c generalizing d e with
  | zero => exact hS d e
  | succ c ih =>
    have h : c < k0_t1_loop.trips := by rw [trips1_eq]; omega
    rw [fwdState, dif_pos h, pay21_at, ih (by omega), hr, show 256 * (c + 1) = 256 * c + 256 by ring,
      ← st_block_ideal γ s0 k v (256 * c) 256 d e]
    congr 1
    refine Finset.sum_congr rfl fun j _ => ?_
    rw [rows1_at K ⟨c, h⟩ (by show c < 8; omega), vals1_at V ⟨c, h⟩ (by show c < 8; omega), hK, hV, hD]

/-- The backward state before chunk `c`, counted from the end, is the reversed sequence's state. -/
theorem bwdState_at (γ : ℝ) (s0 : Fin 256 → Fin 256 → ℝ) (r : Vec Ideal S1x256 .f32) (hr : ∀ e, r (ix2 0 e) = ((γ ^ 256 : ℝ) : EReal))
    (D S : Vec Ideal S256x256 .f32) (hD : ∀ j d, D (ix2 j d) = ((γ ^ j.val : ℝ) : EReal))
    (hS : ∀ d e, S (ix2 d e) = ((s0 d e : ℝ) : EReal)) (c : ℕ) (hc : c ≤ 8) (d e : Fin 256) :
    bwdState (F := Ideal) r D S K V c (ix2 d e) = ((st γ s0 (rev k) (rev v) (256 * c) d e : ℝ) : EReal) := by
  induction c generalizing d e with
  | zero => exact hS d e
  | succ c ih =>
    have h : c < k0_t2_loop.trips := by rw [trips2_eq]; omega
    rw [bwdState, dif_pos h, pay23_at, ih (by omega), hr, ← st_back_ideal γ s0 k v c (by omega) d e]
    congr 1
    refine Finset.sum_congr rfl fun j _ => ?_
    rw [rows2_at K ⟨c, h⟩ (by show c < 8; omega), vals2_at V ⟨c, h⟩ (by show c < 8; omega), hK, hV, hD]

/-- What the two passes leave at row `i` of block `c`. -/
theorem chunk_at (γf γb : ℝ) (sf sb : Fin 256 → Fin 256 → ℝ) (Q : Vec Ideal S2048x256 .bf16) (q : Fin 2048 → Fin 256 → ℝ)
    (hQ : ∀ n d, Q (ix2 n d) = ((q n d : ℝ) : EReal)) (D E G SF SB : Vec Ideal S256x256 .f32)
    (hD : ∀ i j, D (ix2 i j) = ((if j.val ≤ i.val then γf ^ (i.val - j.val) else 0 : ℝ) : EReal)
      + ((if i.val ≤ j.val then γb ^ (j.val - i.val) else 0 : ℝ) : EReal))
    (hE : ∀ i e, E (ix2 i e) = ((γf ^ (i.val + 1) : ℝ) : EReal))
    (hG : ∀ i e, G (ix2 i e) = ((γb ^ (256 - i.val) : ℝ) : EReal))
    (c : ℕ) (hc : c < 8) (k1 : Fin k0_t1_loop.trips) (h1 : k1.val = c) (k2 : Fin k0_t2_loop.trips) (h2 : k2.val = 7 - c)
    (hF : ∀ d e, SF (ix2 d e) = ((st γf sf k v (256 * c) d e : ℝ) : EReal))
    (hB : ∀ d e, SB (ix2 d e) = ((st γb sb (rev k) (rev v) (256 * (7 - c)) d e : ℝ) : EReal))
    (i e : Fin 256) :
    k0_pay22 (F := Ideal) (View.ld Q (rows2 k2)) SB G
        (k0_pay20 (F := Ideal) (View.ld Q (rows1 k1)) (View.ld K (rows1 k1)) (View.ld V (vals1 k1)) D SF E) (ix2 i e)
      = ((out γf sf k v (q ⟨256 * c + i.val, by omega⟩) (256 * c + i.val) e : ℝ) : EReal)
        + ((out γb sb (rev k) (rev v) (q ⟨256 * c + i.val, by omega⟩) (2047 - (256 * c + i.val)) e : ℝ) : EReal) := by
  rw [pay22_at, pay20_at]
  have a1 : ∀ d, View.ld Q (rows1 k1) (ix2 i d) = ((q ⟨256 * c + i.val, by omega⟩ d : ℝ) : EReal) := by
    intro d
    rw [rows1_at Q k1 (by omega) i d, hQ]
    simp only [h1]
  have a2 : ∀ d, View.ld Q (rows2 k2) (ix2 i d) = ((q ⟨256 * c + i.val, by omega⟩ d : ℝ) : EReal) := by
    intro d
    rw [rows2_at Q k2 (by omega) i d, hQ]
    have e1 : 1792 - 256 * k2.val + i.val = 256 * c + i.val := by omega
    simp only [e1]
  have a3 : ∀ j d, View.ld K (rows1 k1) (ix2 j d) = ((k (256 * c + j.val) d : ℝ) : EReal) := by
    intro j d
    rw [rows1_at K k1 (by omega) j d, hK]
    simp only [h1]
  have a4 : ∀ j d, View.ld V (vals1 k1) (ix3 0 j d) = ((v (256 * c + j.val) d : ℝ) : EReal) := by
    intro j d
    rw [vals1_at V k1 (by omega) j d, hV]
    simp only [h1]
  simp only [a1, a2, a3, a4, hE, hG, hD, hF, hB]
  exact two_pass_ideal γf γb sf sb k v _ c hc i e

/-- What the two passes leave at row `n`. -/
theorem both_at (γf γb : ℝ) (sf sb : Fin 256 → Fin 256 → ℝ) (Q : Vec Ideal S2048x256 .bf16) (q : Fin 2048 → Fin 256 → ℝ)
    (hQ : ∀ n d, Q (ix2 n d) = ((q n d : ℝ) : EReal)) (D E G : Vec Ideal S256x256 .f32)
    (hD : ∀ i j, D (ix2 i j) = ((if j.val ≤ i.val then γf ^ (i.val - j.val) else 0 : ℝ) : EReal)
      + ((if i.val ≤ j.val then γb ^ (j.val - i.val) else 0 : ℝ) : EReal))
    (hE : ∀ i e, E (ix2 i e) = ((γf ^ (i.val + 1) : ℝ) : EReal))
    (hG : ∀ i e, G (ix2 i e) = ((γb ^ (256 - i.val) : ℝ) : EReal))
    (SF SB : ℕ → Vec Ideal S256x256 .f32)
    (hF : ∀ c ≤ 8, ∀ d e, SF c (ix2 d e) = ((st γf sf k v (256 * c) d e : ℝ) : EReal))
    (hB : ∀ c ≤ 8, ∀ d e, SB c (ix2 d e) = ((st γb sb (rev k) (rev v) (256 * c) d e : ℝ) : EReal))
    (n : Fin 2048) (e : Fin 256) :
    both (F := Ideal) Q K V D E G SF SB (ix2 n e)
      = ((out γf sf k v (q n) n.val e : ℝ) : EReal) + ((out γb sb (rev k) (rev v) (q n) (2047 - n.val) e : ℝ) : EReal) := by
  have t := chunk_at K V k v hK hV γf γb sf sb Q q hQ D E G (SF (n.val / 256)) (SB (7 - n.val / 256)) hD hE hG (n.val / 256) (by omega)
    (fwdChunk (ix2 n e : S2048x256.Idx)) rfl (bwdChunk (ix2 n e : S2048x256.Idx)) rfl (hF _ (by omega)) (hB _ (by omega))
    ⟨n.val % 256, Nat.mod_lt _ (by decide)⟩ e
  have en : 256 * (n.val / 256) + n.val % 256 = n.val := Nat.div_add_mod _ _
  simp only [en] at t
  refine Eq.trans ?_ t
  have ei : inChunk (ix2 n e : S2048x256.Idx) = ix2 ⟨n.val % 256, Nat.mod_lt _ (by decide)⟩ e := by
    funext a; match a with
    | ⟨0, _⟩ => rfl
    | ⟨1, _⟩ => rfl
  unfold both
  rw [ei]
  rfl

omit hK hV in
/-- The two passes of a head, from finite blocks. -/
theorem passes_at (l l' : EReal) (hl : l ≤ 0) (hl' : l' ≤ 0) (x1 x2 x3 : Vec Ideal S1x2048x256 .bf16) (x5 x6 : Vec Ideal S1x256x256 .bf16)
    (x7 x8 : Vec Ideal S2048x256 .f32) (hq : ∀ n d, IsNum (k0_pay2 (F := Ideal) x1 x7 x8 (ix2 n d)))
    (hk : ∀ n d, IsNum (k0_pay2 (F := Ideal) x2 x7 x8 (ix2 n d))) (hv : ∀ n d, IsNum (x3 (ix3 0 n d)))
    (h5 : ∀ n d, IsNum (x5 (ix3 0 n d))) (h6 : ∀ n d, IsNum (x6 (ix3 0 n d))) (n : Fin 2048) (e : Fin 256) :
    passes (F := Ideal) l l' x1 x2 x3 x5 x6 x7 x8 (ix2 n e)
      = headOut l l' (fun n d => k0_pay2 (F := Ideal) x1 x7 x8 (ix2 n d))
          (fun n d => k0_pay2 (F := Ideal) x2 x7 x8 (ix2 n d) * Ideal.ofBits .f32 0x3D800000#32) (fun n d => x3 (ix3 0 n d))
          (fun j d => x5 (ix3 0 j d) * Ideal.ofBits .f32 0x3D800000#32) (fun j d => x6 (ix3 0 j d)) n e := by
  have h5' : ∀ n d, IsNum (x5 (ix3 0 n d) * Ideal.ofBits .f32 0x3D800000#32) := fun n d => (h5 n d).mul IsNum.c16th
  have hk' : ∀ n d, IsNum (k0_pay2 (F := Ideal) x2 x7 x8 (ix2 n d) * Ideal.ofBits .f32 0x3D800000#32) := fun n d => (hk n d).mul IsNum.c16th
  have hK : ∀ (n : Fin 2048) (d : Fin 256), k0_pay6 (F := Ideal) (k0_pay4 x2) (k0_pay5 x2 x7) x8 (ix2 n d)
      = ((seq (fun n d => k0_pay2 (F := Ideal) x2 x7 x8 (ix2 n d) * Ideal.ofBits .f32 0x3D800000#32) n.val d : ℝ) : EReal) :=
    fun n d => (pay6_at x2 x7 x8 n d).trans (seq_at hk' n d)
  have hV : ∀ (n : Fin 2048) (d : Fin 256), x3 (ix3 0 n d) = ((seq (fun n d => x3 (ix3 0 n d)) n.val d : ℝ) : EReal) := seq_at hv
  have hS : ∀ d e, k0_pay17 (F := Ideal) l k0_pay14 (k0_pay15 x5) (k0_pay16 x6) (ix2 d e)
      = ((ctx (decay l) (nums (fun j d => x5 (ix3 0 j d) * Ideal.ofBits .f32 0x3D800000#32)) (nums (fun j d => x6 (ix3 0 j d))) d e : ℝ) : EReal) := by
    intro d e
    rw [pay17_at l hl, ← ctx_ideal]
    exact Finset.sum_congr rfl fun j _ => congrArg₂ (· * ·) (congrArg (· * _) (nums_at h5' j d)) (nums_at h6 j e)
  have hS' : ∀ d e, k0_pay18 (F := Ideal) l' k0_pay14 (k0_pay15 x5) (k0_pay16 x6) (ix2 d e)
      = ((ctxBack (decay l') (nums (fun j d => x5 (ix3 0 j d) * Ideal.ofBits .f32 0x3D800000#32)) (nums (fun j d => x6 (ix3 0 j d))) d e : ℝ) : EReal) := by
    intro d e
    rw [pay18_at l' hl', ← ctxBack_ideal]
    exact Finset.sum_congr rfl fun j _ => congrArg₂ (· * ·) (congrArg (· * _) (nums_at h5' j d)) (nums_at h6 j e)
  unfold passes headOut
  exact both_at _ _ _ _ hK hV (decay l) (decay l') _ _ _ _ (nums_at hq) _ _ _ (pay7_at l l' hl hl') (pay10_at l hl) (pay12_at l' hl') _ _
    (fwdState_at _ _ _ _ hK hV (decay l) _ _ (fun e => (row_at _ 255 _ rfl _ e).trans (pay10_at l hl 255 e)) _ _ (pay11_at l hl) hS)
    (bwdState_at _ _ _ _ hK hV (decay l') _ _ (fun e => (row_at _ 0 _ rfl _ e).trans (pay12_at l' hl' 0 e)) _ _ (pay13_at l' hl') hS') n e

end Cert.KernelIdeal.Ret

end
-- ==== Proof.RetFrame.lean ====
module

public import proofs.«01_k».proof.Proof.RetRun
public import Idealize.ShloMosaic.Lib.Claim

/-! The retention call as a whole: its body at every grid point, the run of the program, and its frame. -/

@[expose] public section

set_option maxRecDepth 16384

noncomputable section

namespace Cert.KernelIdeal.Ret

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks, point by point -/

/-- Every input block stays; the output block is what the body's run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => result (grid0.coords t) (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q w := Pipeline.shareOf spec0 w
  owed _ := 0

theorem arrays_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) :
    (dats m 0 c).after 9 t = result (grid0.coords t) (iblk m c 0 t) (iblk m c 1 t) (iblk m c 2 t) (iblk m c 3 t) (iblk m c 4 t) (iblk m c 5 t) (iblk m c 6 t) (iblk m c 7 t) (iblk m c 8 t) := by
  dsimp only [dats]

theorem before_0 (c : Dev nD) (t : Fin cfg0.N) (d) : (dats m 0 c).before 0 t d = iblk m c 0 t :=
  before0_0_of m (dats m 0 c) (arrays_eq m c 0) (after_0 m c) t d
theorem before_1 (c : Dev nD) (t : Fin cfg0.N) (d) : (dats m 0 c).before 1 t d = iblk m c 1 t :=
  before0_1_of m (dats m 0 c) (arrays_eq m c 1) (after_1 m c) t d
theorem before_2 (c : Dev nD) (t : Fin cfg0.N) (d) : (dats m 0 c).before 2 t d = iblk m c 2 t :=
  before0_2_of m (dats m 0 c) (arrays_eq m c 2) (after_2 m c) t d
theorem before_3 (c : Dev nD) (t : Fin cfg0.N) (d) : (dats m 0 c).before 3 t d = iblk m c 3 t :=
  before0_3_of m (dats m 0 c) (arrays_eq m c 3) (after_3 m c) t d
theorem before_4 (c : Dev nD) (t : Fin cfg0.N) (d) : (dats m 0 c).before 4 t d = iblk m c 4 t :=
  before0_4_of m (dats m 0 c) (arrays_eq m c 4) (after_4 m c) t d
theorem before_5 (c : Dev nD) (t : Fin cfg0.N) (d) : (dats m 0 c).before 5 t d = iblk m c 5 t :=
  before0_5_of m (dats m 0 c) (arrays_eq m c 5) (after_5 m c) t d
theorem before_6 (c : Dev nD) (t : Fin cfg0.N) (d) : (dats m 0 c).before 6 t d = iblk m c 6 t :=
  before0_6_of m (dats m 0 c) (arrays_eq m c 6) (after_6 m c) t d
theorem before_7 (c : Dev nD) (t : Fin cfg0.N) (d) : (dats m 0 c).before 7 t d = iblk m c 7 t :=
  before0_7_of m (dats m 0 c) (arrays_eq m c 7) (after_7 m c) t d
theorem before_8 (c : Dev nD) (t : Fin cfg0.N) (d) : (dats m 0 c).before 8 t d = iblk m c 8 t :=
  before0_8_of m (dats m 0 c) (arrays_eq m c 8) (after_8 m c) t d

/-! ## The buffers the body is handed -/

abbrev buf0 (t : Fin cfg0.N) : Memref sig .tc .smem S2x8 .f32 := win0_0.stage (cfg0.slots t 0)
abbrev buf1 (t : Fin cfg0.N) : Memref sig .tc .vmem S1x2048x256 .bf16 := win0_1.stage (cfg0.slots t 1)
abbrev buf2 (t : Fin cfg0.N) : Memref sig .tc .vmem S1x2048x256 .bf16 := win0_2.stage (cfg0.slots t 2)
abbrev buf3 (t : Fin cfg0.N) : Memref sig .tc .vmem S1x2048x256 .bf16 := win0_3.stage (cfg0.slots t 3)
abbrev buf4 (t : Fin cfg0.N) : Memref sig .tc .vmem S1x2048x256 .bf16 := win0_4.stage (cfg0.slots t 4)
abbrev buf5 (t : Fin cfg0.N) : Memref sig .tc .vmem S1x256x256 .bf16 := win0_5.stage (cfg0.slots t 5)
abbrev buf6 (t : Fin cfg0.N) : Memref sig .tc .vmem S1x256x256 .bf16 := win0_6.stage (cfg0.slots t 6)
abbrev buf7 (t : Fin cfg0.N) : Memref sig .tc .vmem S2048x256 .f32 := win0_7.stage (cfg0.slots t 7)
abbrev buf8 (t : Fin cfg0.N) : Memref sig .tc .vmem S2048x256 .f32 := win0_8.stage (cfg0.slots t 8)
abbrev buf9 (t : Fin cfg0.N) : Memref sig .tc .vmem S1x2048x256 .bf16 := win0_9.stage (cfg0.slots t 9)

/-- What the body keeps between points: its ten scratch buffers at some contents, and the generator register. -/
theorem kept_eq (c : Dev nD) :
    (Pipeline.ΦA spec0 c : sProp 𝕄)
      = iprop(iprop((∃ d, owns (c : Thread nD τ) (Memref.whole cc0_scratch0 : Memref sig .tc .vmem S2048x256 .bf16) fullShare d) ∗ (∃ d, owns (c : Thread nD τ) (Memref.whole cc0_scratch1 : Memref sig .tc .vmem S2048x256 .bf16) fullShare d) ∗ (∃ d, owns (c : Thread nD τ) (Memref.whole cc0_scratch2 : Memref sig .tc .vmem S2048x256 .f32) fullShare d) ∗ (∃ d, owns (c : Thread nD τ) (Memref.whole cc0_scratch3 : Memref sig .tc .vmem S256x256 .f32) fullShare d) ∗ (∃ d, owns (c : Thread nD τ) (Memref.whole cc0_scratch4 : Memref sig .tc .vmem S256x256 .f32) fullShare d) ∗ (∃ d, owns (c : Thread nD τ) (Memref.whole cc0_scratch5 : Memref sig .tc .vmem S256x256 .f32) fullShare d) ∗ (∃ d, owns (c : Thread nD τ) (Memref.whole cc0_scratch6 : Memref sig .tc .vmem S256x256 .f32) fullShare d) ∗ (∃ d, owns (c : Thread nD τ) (Memref.whole cc0_scratch7 : Memref sig .tc .vmem S256x256 .f32) fullShare d) ∗ (∃ d, owns (c : Thread nD τ) (Memref.whole cc0_scratch8 : Memref sig .tc .vmem S256x256 .f32) fullShare d) ∗ (∃ d, owns (c : Thread nD τ) (Memref.whole cc0_scratch9 : Memref sig .tc .vmem S256x256 .f32) fullShare d)) ∗ (∃ r, prngReg c r)) := by
  unfold Pipeline.ΦA
  rw [scopedRest0_eq]
  simp only [owns_whole]
  try rfl

def pre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d)))

def post (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t))

set_option maxHeartbeats 2000000 in
theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, kept_eq]
  iintro ⟨⟨⟨HS0, HS1, HS2, HS3, HS4, HS5, HS6, HS7, HS8, HS9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  iintro ⟨H0, H1, H2, H3, H4, H5, H6, H7, H8, H9, HS0, HS1, HS2, HS3, HS4, HS5, HS6, HS7, HS8, HS9⟩
  isplitl [HS0 HS1 HS2 HS3 HS4 HS5 HS6 HS7 HS8 HS9 Hg]
  · isplitl [HS0 HS1 HS2 HS3 HS4 HS5 HS6 HS7 HS8 HS9]
    · isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      iexact HS9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ## The run and the frame -/

set_option backward.isDefEq.respectTransparency.types false in
theorem run : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := arrays_eq m) (hΦ := fun _ _ => rfl)

/-- The arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays_eq m) ((θ_run defs _ _).mono (fun _ h => h.1) (run m ρ)))
    ((θ_run defs _ _).mono (fun _ h => h.2) (run m ρ))

end Cert.KernelIdeal.Ret

end
-- ==== Proof.RetAngles.lean ====
module

public import proofs.«01_k».proof.Proof.RetSpec

/-! The angles of the rotary embedding: a token's row and column on a grid 64 wide, times falling powers of ten thousand. -/

@[expose] public section

noncomputable section

namespace Cert.Retention

open Idealize.ShloMosaic

/-- The sign of a word. -/
def sgn (w : BitVec 32) : BitVec 32 := if w = 0 then 0 else if w.msb = true then -1 else 1

/-- A token's row: the word divided by 64, rounded down. -/
def rowWord (w : BitVec 32) : BitVec 32 :=
  Scalar.select
    (IntOp.andi
      (IntOp.cmpi CmpIPredicate.ne (sgn w) (sgn (64#32)))
      (IntOp.cmpi CmpIPredicate.ne (IntOp.remsi ArithUnit.host w (64#32)) 0#32))
    (IntOp.subi (IntOp.divsi ArithUnit.host w (64#32)) 1#32)
    (IntOp.divsi ArithUnit.host w (64#32))

/-- The divisor 64, guarded against zero. -/
def wide : BitVec 32 := Scalar.select (IntOp.cmpi CmpIPredicate.eq (64#32) 0#32) (1#32) (64#32)

/-- A token's column: the remainder by 64, of the divisor's sign. -/
def colWord (w : BitVec 32) : BitVec 32 :=
  Scalar.select
    (IntOp.andi
      (IntOp.cmpi CmpIPredicate.ne (IntOp.cmpi CmpIPredicate.slt (IntOp.remsi ArithUnit.host w wide) 0#32)
        (IntOp.cmpi CmpIPredicate.slt wide 0#32))
      (IntOp.cmpi CmpIPredicate.ne (IntOp.remsi ArithUnit.host w wide) 0#32))
    (IntOp.addi (IntOp.remsi ArithUnit.host w wide) wide)
    (IntOp.remsi ArithUnit.host w wide)

/-- The frequency of lane `i`. -/
def freq (i : ℕ) : EReal :=
  Ideal.pow (Ideal.ofBits FTy.f32 0x461C4000#32)
    (Ideal.div (-FloatOps.sitofp (F := Ideal) FTy.f32 (BitVec.ofNat 32 i)) (Ideal.ofBits FTy.f32 0x42800000#32))

def rowAngle (n : Fin 2048) (i : Fin 64) : EReal :=
  FloatOps.sitofp (F := Ideal) FTy.f32 (rowWord (BitVec.ofNat 32 n.val)) * freq i.val

def colAngle (n : Fin 2048) (i : Fin 64) : EReal :=
  FloatOps.sitofp (F := Ideal) FTy.f32 (colWord (BitVec.ofNat 32 n.val)) * freq i.val

theorem freq_fin (i : ℕ) : IsNum (freq i) := by
  refine IsNum.pow ⟨_, c1e4⟩ ?_
  rw [c64, Ideal.div_coe (by norm_num)]
  exact (IsNum.word _).neg.mul ⟨_, rfl⟩

theorem rowAngle_fin (n : Fin 2048) (i : Fin 64) : IsNum (rowAngle n i) := (IsNum.word _).mul (freq_fin _)

theorem colAngle_fin (n : Fin 2048) (i : Fin 64) : IsNum (colAngle n i) := (IsNum.word _).mul (freq_fin _)

/-- One head of the layer's retention, from the projections, the context's keys and values, and the decays. -/
def headSpec (p : Fin 16 → Fin 2048 → Fin 14336 → EReal) (c : Fin 16 → Fin 256 → Fin 4096 → EReal) (r : Fin 2 → Fin 8 → EReal)
    (b : Fin 16) (h : Fin 8) (n : Fin 2048) (e : Fin 256) : EReal :=
  gated (p b n ⟨256 * (24 + h.val) + e.val, by omega⟩)
    (headOut (-Ideal.exp (r 0 h)) (-Ideal.exp (r 1 h))
      (fun n d => rope rowAngle colAngle (fun d => p b n ⟨256 * h.val + d.val, by omega⟩) n d)
      (fun n d => rope rowAngle colAngle (fun d => p b n ⟨256 * (8 + h.val) + d.val, by omega⟩) n d * Ideal.ofBits .f32 0x3D800000#32)
      (fun n d => p b n ⟨256 * (16 + h.val) + d.val, by omega⟩)
      (fun j d => c b j ⟨256 * h.val + d.val, by omega⟩ * Ideal.ofBits .f32 0x3D800000#32)
      (fun j d => c b j ⟨256 * (8 + h.val) + d.val, by omega⟩) n) e

/-- The retention of the whole layer: eight heads of 256 lanes. -/
def spec (p : Fin 16 → Fin 2048 → Fin 14336 → EReal) (c : Fin 16 → Fin 256 → Fin 4096 → EReal) (r : Fin 2 → Fin 8 → EReal)
    (b : Fin 16) (n : Fin 2048) (col : Fin 2048) : EReal :=
  headSpec p c r b ⟨col.val / 256, by omega⟩ n ⟨col.val % 256, by omega⟩

theorem spec_at (p : Fin 16 → Fin 2048 → Fin 14336 → EReal) (c : Fin 16 → Fin 256 → Fin 4096 → EReal) (r : Fin 2 → Fin 8 → EReal)
    (b : Fin 16) (n : Fin 2048) (h : Fin 8) (e : Fin 256) :
    spec p c r b n ⟨256 * h.val + e.val, by omega⟩ = headSpec p c r b h n e := by
  have e1 : (⟨(256 * h.val + e.val) / 256, by omega⟩ : Fin 8) = h := Fin.ext (by simp only; omega)
  have e2 : (⟨(256 * h.val + e.val) % 256, by omega⟩ : Fin 256) = e := Fin.ext (by simp only; omega)
  show headSpec p c r b ⟨(256 * h.val + e.val) / 256, by omega⟩ n ⟨(256 * h.val + e.val) % 256, by omega⟩ = _
  rw [e1, e2]

end Cert.Retention

end
-- ==== Proof.RetValue.lean ====
module

public import proofs.«01_k».proof.Proof.RetPasses
public import proofs.«01_k».proof.Proof.RetFrame
public import proofs.«01_k».proof.Proof.RetAngles
public import Idealize.ShloMosaic.Lib.StableHlo.ReadAt
public import Idealize.ShloMosaic.Lib.Pipeline.ValueKit

/-! The retention call at exact arithmetic, element by element. -/

@[expose] public section

set_option maxRecDepth 16384
set_option maxHeartbeats 1000000

noncomputable section

namespace Cert.KernelIdeal.Ret

open Idealize.ShloMosaic Idealize.ShloMosaic.TcCoe Idealize.SL.Sem
open Cert.KernelIdeal Cert.KernelIdeal.Gen Cert.Retention

/-- Each window's block index at a point: a batch and a head. -/
theorem idx : ∀ t : Fin cfg0.N,
    win0_0.index t = ![0, 0] ∧ win0_1.index t = ![t.val / 8, 0, t.val % 8] ∧ win0_2.index t = ![t.val / 8, 0, 8 + t.val % 8]
    ∧ win0_3.index t = ![t.val / 8, 0, 16 + t.val % 8] ∧ win0_4.index t = ![t.val / 8, 0, 24 + t.val % 8]
    ∧ win0_5.index t = ![t.val / 8, 0, t.val % 8] ∧ win0_6.index t = ![t.val / 8, 0, 8 + t.val % 8]
    ∧ win0_7.index t = ![0, 0] ∧ win0_8.index t = ![0, 0] ∧ win0_9.index t = ![t.val / 8, 0, t.val % 8] :=
  (by decide +kernel : ∀ t : Fin grid0.N, _)

variable (m : (ℓ : Loc nD τ sig) → Buf (Elt Ideal) ℓ)

/-- The batch and the head of a point. -/
def bat (t : Fin cfg0.N) : Fin 16 := ⟨t.val / 8, Nat.div_lt_of_lt_mul (Nat.lt_of_lt_of_eq t.isLt (by decide +kernel))⟩
def hd (t : Fin cfg0.N) : Fin 8 := ⟨t.val % 8, Nat.mod_lt _ (by decide)⟩

/-- The arguments' elements. -/
def proj (c : Dev nD) (b : Fin 16) (n : Fin 2048) (l : Fin 14336) : EReal := m ((c : Thread nD τ).loc main_arg0) (ix3 b n l)
def ctxt (c : Dev nD) (b : Fin 16) (j : Fin 256) (l : Fin 4096) : EReal := m ((c : Thread nD τ).loc main_arg1) (ix3 b j l)
def lgs (c : Dev nD) (i : Fin 2) (h : Fin 8) : EReal := m ((c : Thread nD τ).loc main_arg2) (ix3 0 i h)

theorem angle_cases (n : Fin 2048) (d : Fin 256) (f : EReal → EReal) (g : EReal → EReal) :
    (if h : d.val < 64 then f (rowAngle n ⟨d.val, h⟩) else if h : d.val - 64 < 64 then g (rowAngle n ⟨d.val - 64, h⟩)
      else if h : d.val - 64 - 64 < 64 then f (colAngle n ⟨d.val - 64 - 64, h⟩)
      else g (colAngle n ⟨d.val - 64 - 64 - 64, by omega⟩))
      = if d.val % 128 < 64 then f (angle rowAngle colAngle n d) else g (angle rowAngle colAngle n d) := by
  have k : ∀ (A : Fin 2048 → Fin 64 → EReal) (x y : ℕ) (hx hy), x = y → A n ⟨x, hx⟩ = A n ⟨y, hy⟩ := by
    intro A x y hx hy e; subst e; rfl
  unfold angle
  by_cases h1 : d.val < 64
  · rw [dif_pos h1, if_pos (by omega), if_pos (by omega)]
    exact congrArg f (k _ _ _ _ _ (by omega))
  rw [dif_neg h1]
  by_cases h2 : d.val - 64 < 64
  · rw [dif_pos h2, if_neg (by omega), if_pos (by omega)]
    exact congrArg g (k _ _ _ _ _ (by omega))
  rw [dif_neg h2]
  by_cases h3 : d.val - 64 - 64 < 64
  · rw [dif_pos h3, if_pos (by omega), if_neg (by omega)]
    exact congrArg f (k _ _ _ _ _ (by omega))
  · rw [dif_neg h3, if_neg (by omega), if_neg (by omega)]
    exact congrArg g (k _ _ _ _ _ (by omega))

theorem cos_at (c : Dev nD) (t : Fin cfg0.N) (n : Fin 2048) (d : Fin 256) :
    iblk m c 7 t (ix2 n d) = Ideal.cos (angle rowAngle colAngle n d) := by
  have e : (win0_7.blk t).view.emb (ix2 n d) = ix2 n d := by blk_ext [idx t]
  blk_simp [iblk, V, idx t]
  rw [e]
  after_reads_at
  after_reads_at
  refine Eq.trans ?_ ((angle_cases n d Ideal.cos Ideal.cos).trans (ite_self _))
  rfl

theorem sin_at (c : Dev nD) (t : Fin cfg0.N) (n : Fin 2048) (d : Fin 256) :
    iblk m c 8 t (ix2 n d) = signed rowAngle colAngle n d := by
  have e : (win0_8.blk t).view.emb (ix2 n d) = ix2 n d := by blk_ext [idx t]
  blk_simp [iblk, V, idx t]
  rw [e]
  after_reads_at
  after_reads_at
  unfold signed
  refine Eq.trans ?_ (angle_cases n d (fun x => -Ideal.sin x) Ideal.sin)
  rfl

theorem log_at (c : Dev nD) (t : Fin cfg0.N) (i : Fin 2) (j : Fin 8) :
    iblk m c 0 t (ix2 i j) = -Ideal.exp (lgs m c i j) := by
  have e : (win0_0.blk t).view.emb (ix2 i j) = ix2 i j := by blk_ext [idx t]
  blk_simp [iblk, V, idx t]
  rw [e]
  after_reads_at
  rfl

theorem blk1 (c : Dev nD) (t : Fin cfg0.N) (n : Fin 2048) (d : Fin 256) :
    iblk m c 1 t (ix3 0 n d) = proj m c (bat t) n ⟨256 * (hd t).val + d.val, by omega⟩ := by
  unfold proj bat hd; blk_point [iblk, V, idx t]
theorem blk2 (c : Dev nD) (t : Fin cfg0.N) (n : Fin 2048) (d : Fin 256) :
    iblk m c 2 t (ix3 0 n d) = proj m c (bat t) n ⟨256 * (8 + (hd t).val) + d.val, by omega⟩ := by
  unfold proj bat hd; blk_point [iblk, V, idx t]
theorem blk3 (c : Dev nD) (t : Fin cfg0.N) (n : Fin 2048) (d : Fin 256) :
    iblk m c 3 t (ix3 0 n d) = proj m c (bat t) n ⟨256 * (16 + (hd t).val) + d.val, by omega⟩ := by
  unfold proj bat hd; blk_point [iblk, V, idx t]
theorem blk4 (c : Dev nD) (t : Fin cfg0.N) (n : Fin 2048) (d : Fin 256) :
    iblk m c 4 t (ix3 0 n d) = proj m c (bat t) n ⟨256 * (24 + (hd t).val) + d.val, by omega⟩ := by
  unfold proj bat hd; blk_point [iblk, V, idx t]
theorem blk5 (c : Dev nD) (t : Fin cfg0.N) (n : Fin 256) (d : Fin 256) :
    iblk m c 5 t (ix3 0 n d) = ctxt m c (bat t) n ⟨256 * (hd t).val + d.val, by omega⟩ := by
  unfold ctxt bat hd; blk_point [iblk, V, idx t]
theorem blk6 (c : Dev nD) (t : Fin cfg0.N) (n : Fin 256) (d : Fin 256) :
    iblk m c 6 t (ix3 0 n d) = ctxt m c (bat t) n ⟨256 * (8 + (hd t).val) + d.val, by omega⟩ := by
  unfold ctxt bat hd; blk_point [iblk, V, idx t]

/-- The head's two log decays, as the body reads them. -/
theorem off : ∀ t : Fin cfg0.N, k0_off1 (grid0.coords t) = ![0, t.val % 8] ∧ k0_off2 (grid0.coords t) = ![1, t.val % 8] :=
  (by decide +kernel : ∀ t : Fin grid0.N, _)

theorem fwdLog_at (c : Dev nD) (t : Fin cfg0.N) : fwdLog (grid0.coords t) (iblk m c 0 t) = -Ideal.exp (lgs m c 0 (hd t)) := by
  refine Eq.trans ?_ (log_at m c t 0 (hd t))
  unfold fwdLog
  refine congrArg (iblk m c 0 t) (funext fun a => Fin.ext ?_)
  show k0_off1 (grid0.coords t) a + 1 * 0 = _
  rw [(off t).1]
  match a with
  | 0 => rfl
  | 1 => rfl

theorem bwdLog_at (c : Dev nD) (t : Fin cfg0.N) : bwdLog (grid0.coords t) (iblk m c 0 t) = -Ideal.exp (lgs m c 1 (hd t)) := by
  refine Eq.trans ?_ (log_at m c t 1 (hd t))
  unfold bwdLog
  refine congrArg (iblk m c 0 t) (funext fun a => Fin.ext ?_)
  show k0_off2 (grid0.coords t) a + 1 * 0 = _
  rw [(off t).2]
  match a with
  | 0 => rfl
  | 1 => rfl

/-- Every query, key, value and context entry is finite. -/
def Finite (c : Dev nD) : Prop := (∀ b n (l : Fin 14336), l.val < 6144 → IsNum (proj m c b n l)) ∧ ∀ b j l, IsNum (ctxt m c b j l)

theorem block_at (c : Dev nD) (hf : Finite m c) (t : Fin cfg0.N) (n : Fin 2048) (e : Fin 256) :
    result (grid0.coords t) (iblk m c 0 t) (iblk m c 1 t) (iblk m c 2 t) (iblk m c 3 t) (iblk m c 4 t) (iblk m c 5 t) (iblk m c 6 t) (iblk m c 7 t) (iblk m c 8 t) (ix3 0 n e)
      = headSpec (proj m c) (ctxt m c) (lgs m c) (bat t) (hd t) n e := by
  have hr : ∀ n d, k0_pay2 (F := Ideal) (iblk m c 1 t) (iblk m c 7 t) (iblk m c 8 t) (ix2 n d)
      = rope rowAngle colAngle (fun d => proj m c (bat t) n ⟨256 * (hd t).val + d.val, by omega⟩) n d := fun n d => by
    refine (pay2_at _ _ _ n d).trans ?_
    rw [blk1, blk1, cos_at, sin_at]; rfl
  have hs : ∀ n d, k0_pay2 (F := Ideal) (iblk m c 2 t) (iblk m c 7 t) (iblk m c 8 t) (ix2 n d)
      = rope rowAngle colAngle (fun d => proj m c (bat t) n ⟨256 * (8 + (hd t).val) + d.val, by omega⟩) n d := fun n d => by
    refine (pay2_at _ _ _ n d).trans ?_
    rw [blk2, blk2, cos_at, sin_at]; rfl
  unfold result
  refine (out_at _ _ n e).trans ?_
  unfold headSpec
  rw [blk4, fwdLog_at, bwdLog_at]
  refine congrArg (fun y => gated _ y e) (funext fun x => ?_)
  refine (passes_at _ _ (neg_exp_le _) (neg_exp_le _) _ _ _ _ _ _ _ ?_ ?_ ?_ ?_ ?_ n x).trans ?_
  · intro n d; rw [hr]; exact rope_fin rowAngle_fin colAngle_fin (fun d => hf.1 _ _ _ (by have := (hd t).isLt; simp only; omega)) n d
  · intro n d; rw [hs]; exact rope_fin rowAngle_fin colAngle_fin (fun d => hf.1 _ _ _ (by have := (hd t).isLt; simp only; omega)) n d
  · intro n d; rw [blk3]; exact hf.1 _ _ _ (by have := (hd t).isLt; simp only; omega)
  · intro n d; rw [blk5]; exact hf.2 _ _ _
  · intro n d; rw [blk6]; exact hf.2 _ _ _
  · simp only [hr, hs, blk3, blk5, blk6]

theorem gather (c : Dev nD) (U : Fin 16 → Fin 2048 → Fin 2048 → EReal)
    (h : ∀ (t : Fin cfg0.N) (n : Fin 2048) (e : Fin 256),
      result (grid0.coords t) (iblk m c 0 t) (iblk m c 1 t) (iblk m c 2 t) (iblk m c 3 t) (iblk m c 4 t) (iblk m c 5 t) (iblk m c 6 t) (iblk m c 7 t) (iblk m c 8 t) (ix3 0 n e)
        = U (bat t) n ⟨256 * (hd t).val + e.val, by omega⟩) :
    (dats m 0 c).arrAt 9 cfg0.N = fun i : S16x2048x2048.Idx => U (i 0) (i 1) (i 2) := by
  refine (dats m 0 c).arrAt_eq_of_covers 9 _ (by decide +kernel) fun t hf y => ?_
  blk_simp
  rw [after_9]
  idx_vars y
  have e0 : y0 = 0 := Fin.ext (by omega)
  subst e0
  refine (h t y1 y2).trans ?_
  have e : (win0_9.blk t).view.emb (ix3 0 y1 y2) = ix3 (bat t) y1 ⟨256 * (hd t).val + y2.val, by omega⟩ := by blk_ext [idx t, bat, hd]
  exact congrArg (fun i : S16x2048x2048.Idx => U (i 0) (i 1) (i 2)) e.symm

theorem final (c : Dev nD) (hf : Finite m c) :
    (dats m 0 c).arrAt 9 cfg0.N = fun i : S16x2048x2048.Idx => spec (proj m c) (ctxt m c) (lgs m c) (i 0) (i 1) (i 2) :=
  gather m c (spec (proj m c) (ctxt m c) (lgs m c)) fun t n e => (block_at m c hf t n e).trans (spec_at _ _ _ _ _ _ _).symm

/-- The run's result is the array the blocks leave, and the arguments are unchanged. -/
theorem run_value (ρ : Dev nD → PrngReg) : θ_run defs (onTc (τ := τ) (main (F := Ideal))) ⟨m, fun _ => 0, ρ⟩ (fun r => ∀ c : Dev nD,
      r.2.mem ((c.tc : Thread nD τ).loc main_v36) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h.1.1 c).1 9, h.2.1 c⟩) (θ_run_and (run m ρ) (frame m ρ))

end Cert.KernelIdeal.Ret

end
-- ==== Proof.RetRef.lean ====
module

public import proofs.«01_k».proof.Proof.RetAngles
public import proofs.«01_k».proof.Proof.Gen.ReferenceIdeal.Run
public import Idealize.ShloMosaic.Lib.Claim
public import Idealize.ShloMosaic.Lib.Pointwise

/-! The plainly written retention, element by element. -/

@[expose] public section

set_option maxRecDepth 16384
set_option maxHeartbeats 1000000

noncomputable section

namespace Cert.ReferenceIdeal.Hand

open Cert.ReferenceIdeal Cert.ReferenceIdeal.Gen Cert.Retention Idealize.ShloMosaic Idealize.ShloMosaic.TcCoe Idealize.SL.Sem

/-- A sequence and its reverse, on twice as many heads. -/
def twice (x : FVec Ideal S16x8x2048x256 .f32) : FVec Ideal S16x16x2048x256 .f32 :=
  concatenate S16x16x2048x256 1 [⟨S16x8x2048x256, x⟩, ⟨S16x8x2048x256, (Host.reverse [2] x)⟩] concatenates_S16x8x2048x256_S16x8x2048x256_S16x16x2048x256_d1

/-- The same of the context. -/
def twiceCtx (x : FVec Ideal S16x8x256x256 .f32) : FVec Ideal S16x16x256x256 .f32 :=
  concatenate S16x16x256x256 1 [⟨S16x8x256x256, x⟩, ⟨S16x8x256x256, (Host.reverse [2] x)⟩] concatenates_S16x8x256x256_S16x8x256x256_S16x16x256x256_d1

/-- The decay between two tokens. -/
def decays (lg : FVec Ideal S16 .f32) : FVec Ideal S16x2048x2048 .f32 :=
  let ix : FVec Ideal S2048 .f32 := sitofp .f32 (iotaInDim S2048 32 0)
  let df : FVec Ideal S2048x2048 .f32 := subf (broadcastInDim S2048x2048 ![0, 1] bcast_S2048x1_S2048x2048_0_1 (broadcastInDim S2048x1 ![0] bcast_S2048_S2048x1_0 ix)) (broadcastInDim S2048x2048 ![0, 1] bcast_S1x2048_S2048x2048_0_1 (broadcastInDim S1x2048 ![1] bcast_S2048_S1x2048_1 ix))
  select (broadcastInDim S16x2048x2048 ![1, 2] bcast_S2048x2048_S16x2048x2048_1_2 (cmpf .oge df (broadcastInDim S2048x2048 ![] bcast_S_S2048x2048 (constant S_ .f32 0x00000000#32)))) (Host.exp (mulf (broadcastInDim S16x2048x2048 ![0, 1, 2] bcast_S16x1x1_S16x2048x2048_0_1_2 (broadcastInDim S16x1x1 ![0] bcast_S16_S16x1x1_0 lg)) (broadcastInDim S16x2048x2048 ![0, 1, 2] bcast_S1x2048x2048_S16x2048x2048_0_1_2 (broadcastInDim S1x2048x2048 ![1, 2] bcast_S2048x2048_S1x2048x2048_1_2 (maximumf df (broadcastInDim S2048x2048 ![] bcast_S_S2048x2048 (constant S_ .f32 0x00000000#32))))))) (broadcastInDim S16x2048x2048 ![] bcast_S_S16x2048x2048 (id (constant S_ .f32 0x00000000#32)))

/-- The state the context leaves. -/
def start (kc vc : FVec Ideal S16x16x256x256 .f32) (lg : FVec Ideal S16 .f32) : FVec Ideal S16x16x256x256 .f32 :=
  Host.dotGeneral dot_S16x16x256x256_S16x16x256x256_S16x16x256x256_2_2_3_3_01_01 none (mulf kc (broadcastInDim S16x16x256x256 ![0, 1, 2, 3] bcast_S1x16x256x1_S16x16x256x256_0_1_2_3 (broadcastInDim S1x16x256x1 ![1, 2] bcast_S16x256_S1x16x256x1_1_2 (Host.exp (mulf (broadcastInDim S16x256 ![0, 1] bcast_S16x1_S16x256_0_1 (broadcastInDim S16x1 ![0] bcast_S16_S16x1_0 lg)) (broadcastInDim S16x256 ![0, 1] bcast_S1x256_S16x256_0_1 (broadcastInDim S1x256 ![1] bcast_S256_S1x256_1 (subf (broadcastInDim S256 ![] bcast_S_S256 (constant S_ .f32 0x437F0000#32)) (sitofp .f32 (iotaInDim S256 32 0)))))))))) vc

/-- The retention of every head and direction. -/
def retained (q k v : FVec Ideal S16x16x2048x256 .f32) (s0 : FVec Ideal S16x16x256x256 .f32) (lg : FVec Ideal S16 .f32) (dec : FVec Ideal S16x2048x2048 .f32) : FVec Ideal S16x16x2048x256 .f32 :=
  addf (Host.dotGeneral dot_S16x16x2048x2048_S16x16x2048x256_S16x16x2048x256_3_2_2_3_01_01 none (mulf (Host.dotGeneral dot_S16x16x2048x256_S16x16x2048x256_S16x16x2048x2048_3_3_2_2_01_01 none q k) (broadcastInDim S16x16x2048x2048 ![0, 1, 2, 3] bcast_S1x16x2048x2048_S16x16x2048x2048_0_1_2_3 (broadcastInDim S1x16x2048x2048 ![1, 2, 3] bcast_S16x2048x2048_S1x16x2048x2048_1_2_3 dec))) v) (mulf (Host.dotGeneral dot_S16x16x2048x256_S16x16x256x256_S16x16x2048x256_3_2_2_3_01_01 none q s0) (broadcastInDim S16x16x2048x256 ![0, 1, 2, 3] bcast_S1x16x2048x1_S16x16x2048x256_0_1_2_3 (broadcastInDim S1x16x2048x1 ![1, 2] bcast_S16x2048_S1x16x2048x1_1_2 (Host.exp (mulf (broadcastInDim S16x2048 ![0, 1] bcast_S16x1_S16x2048_0_1 (broadcastInDim S16x1 ![0] bcast_S16_S16x1_0 lg)) (broadcastInDim S16x2048 ![0, 1] bcast_S1x2048_S16x2048_0_1 (broadcastInDim S1x2048 ![1] bcast_S2048_S1x2048_1 (addf (sitofp .f32 (iotaInDim S2048 32 0)) (broadcastInDim S2048 ![] bcast_S_S2048 (constant S_ .f32 0x3F800000#32))))))))))

/-- A rotated pair of halves of 64 lanes each. -/
def turned (u : FVec Ideal S16x8x2048x128 .f32) (a : FVec Ideal S2048x64 .f32) : FVec Ideal S16x8x2048x128 .f32 :=
  let u1 := extractStridedSlice S16x8x2048x64 ![0, 0, 0, 0] u slices_S16x8x2048x128_S16x8x2048x64_0_0_0_0
  let u2 := extractStridedSlice S16x8x2048x64 ![0, 0, 0, 64] u slices_S16x8x2048x128_S16x8x2048x64_0_0_0_64
  concatenate S16x8x2048x128 3 [⟨S16x8x2048x64, (subf (mulf u1 (broadcastInDim S16x8x2048x64 ![0, 1, 2, 3] bcast_S1x1x2048x64_S16x8x2048x64_0_1_2_3 (broadcastInDim S1x1x2048x64 ![2, 3] bcast_S2048x64_S1x1x2048x64_2_3 (Host.cos a)))) (mulf u2 (broadcastInDim S16x8x2048x64 ![0, 1, 2, 3] bcast_S1x1x2048x64_S16x8x2048x64_0_1_2_3 (broadcastInDim S1x1x2048x64 ![2, 3] bcast_S2048x64_S1x1x2048x64_2_3 (Host.sin a)))))⟩, ⟨S16x8x2048x64, (addf (mulf u1 (broadcastInDim S16x8x2048x64 ![0, 1, 2, 3] bcast_S1x1x2048x64_S16x8x2048x64_0_1_2_3 (broadcastInDim S1x1x2048x64 ![2, 3] bcast_S2048x64_S1x1x2048x64_2_3 (Host.sin a)))) (mulf u2 (broadcastInDim S16x8x2048x64 ![0, 1, 2, 3] bcast_S1x1x2048x64_S16x8x2048x64_0_1_2_3 (broadcastInDim S1x1x2048x64 ![2, 3] bcast_S2048x64_S1x1x2048x64_2_3 (Host.cos a)))))⟩] concatenates_S16x8x2048x64_S16x8x2048x64_S16x8x2048x128_d3

/-- The rotary embedding over rows and columns. -/
def roped (u : FVec Ideal S16x8x2048x256 .f32) (a b : FVec Ideal S2048x64 .f32) : FVec Ideal S16x8x2048x256 .f32 :=
  concatenate S16x8x2048x256 3 [⟨S16x8x2048x128, (turned (extractStridedSlice S16x8x2048x128 ![0, 0, 0, 0] u slices_S16x8x2048x256_S16x8x2048x128_0_0_0_0) a)⟩, ⟨S16x8x2048x128, (turned (extractStridedSlice S16x8x2048x128 ![0, 0, 0, 128] u slices_S16x8x2048x256_S16x8x2048x128_0_0_0_128) b)⟩] concatenates_S16x8x2048x128_S16x8x2048x128_S16x8x2048x256_d3

theorem twice_lo (x : FVec Ideal S16x8x2048x256 .f32) (b : Fin 16) (h : Fin 8) (n : Fin 2048) (d : Fin 256) :
    twice x (ix4 b ⟨h.val, by omega⟩ n d) = x (ix4 b h n d) := by
  pointwise [twice]

theorem twice_hi (x : FVec Ideal S16x8x2048x256 .f32) (b : Fin 16) (h : Fin 8) (n : Fin 2048) (d : Fin 256) :
    twice x (ix4 b ⟨8 + h.val, by omega⟩ n d) = x (ix4 b h n.rev d) := by
  pointwise [twice]
  rfl

theorem twiceCtx_lo (x : FVec Ideal S16x8x256x256 .f32) (b : Fin 16) (h : Fin 8) (n : Fin 256) (d : Fin 256) :
    twiceCtx x (ix4 b ⟨h.val, by omega⟩ n d) = x (ix4 b h n d) := by
  pointwise [twiceCtx]

theorem twiceCtx_hi (x : FVec Ideal S16x8x256x256 .f32) (b : Fin 16) (h : Fin 8) (n : Fin 256) (d : Fin 256) :
    twiceCtx x (ix4 b ⟨8 + h.val, by omega⟩ n d) = x (ix4 b h n.rev d) := by
  pointwise [twiceCtx]
  rfl

theorem zero_bits : Ideal.ofBits .f32 0#32 = 0 := by simp [Ideal.ofBits, Ideal.ieee]

theorem decays_at (lg : FVec Ideal S16 .f32) (h : Fin 16) (hl : lg (ix1 h) ≤ 0) (i j : Fin 2048) :
    decays lg (ix3 h i j) = ((if j.val ≤ i.val then decay (lg (ix1 h)) ^ (i.val - j.val) else 0 : ℝ) : EReal) := by
  refine Eq.trans ?_ (dec_at (lg (ix1 h)) hl i.val j.val)
  pointwise [decays]
  rw [word_at _ i.isLt, word_at _ j.isLt, coe_sub_coe]
  refine if_congr Iff.rfl rfl ?_
  exact zero_bits

theorem start_at (kc vc : FVec Ideal S16x16x256x256 .f32) (lg : FVec Ideal S16 .f32) (b h : Fin 16) (hl : lg (ix1 h) ≤ 0)
    (k v : Fin 256 → Fin 256 → ℝ) (hk : ∀ j d, kc (ix4 b h j d) = ((k j d : ℝ) : EReal)) (hv : ∀ j d, vc (ix4 b h j d) = ((v j d : ℝ) : EReal))
    (d e : Fin 256) : start kc vc lg (ix4 b h d e) = ((ctx (decay (lg (ix1 h))) k v d e : ℝ) : EReal) := by
  refine Eq.trans ?_ (ctx_ideal (decay (lg (ix1 h))) k v d e)
  pointwise [start]
  refine Finset.sum_congr rfl fun x _ => ?_
  rw [hk, hv, word_at _ (by omega), c255, coe_sub_coe, exp_gap _ hl _ _ (by omega)]

theorem retained_at (q k v : FVec Ideal S16x16x2048x256 .f32) (s0 : FVec Ideal S16x16x256x256 .f32) (lg : FVec Ideal S16 .f32) (b h : Fin 16)
    (hl : lg (ix1 h) ≤ 0) (Q : Fin 2048 → Fin 256 → ℝ) (K V : ℕ → Fin 256 → ℝ) (s : Fin 256 → Fin 256 → ℝ)
    (hq : ∀ n d, q (ix4 b h n d) = ((Q n d : ℝ) : EReal)) (hk : ∀ n d, k (ix4 b h n d) = ((K n.val d : ℝ) : EReal))
    (hv : ∀ n d, v (ix4 b h n d) = ((V n.val d : ℝ) : EReal)) (hs : ∀ d e, s0 (ix4 b h d e) = ((s d e : ℝ) : EReal))
    (i : Fin 2048) (e : Fin 256) :
    retained q k v s0 lg (decays lg) (ix4 b h i e) = ((out (decay (lg (ix1 h))) s K V (Q i) i.val e : ℝ) : EReal) := by
  have t := out_block_ideal (decay (lg (ix1 h))) s K V (Q i) 0 2048 i e
  simp only [Nat.zero_add, Fin.le_def] at t
  refine Eq.trans ?_ t
  pointwise [retained]
  simp only [hq, hk, hv, hs, decays_at lg h hl, word_at _ i.isLt, add_one_coe, exp_mul _ hl]
  rfl

theorem turned_lo (u : FVec Ideal S16x8x2048x128 .f32) (a : FVec Ideal S2048x64 .f32) (b : Fin 16) (h : Fin 8) (n : Fin 2048) (d : Fin 128) (hd : d.val < 64) :
    turned u a (ix4 b h n d) = u (ix4 b h n d) * Ideal.cos (a (ix2 n ⟨d.val, hd⟩)) - u (ix4 b h n ⟨64 + d.val, by omega⟩) * Ideal.sin (a (ix2 n ⟨d.val, hd⟩)) := by
  pointwise [turned]
  rw [dif_pos hd]

theorem turned_hi (u : FVec Ideal S16x8x2048x128 .f32) (a : FVec Ideal S2048x64 .f32) (b : Fin 16) (h : Fin 8) (n : Fin 2048) (d : Fin 128) (hd : ¬d.val < 64) :
    turned u a (ix4 b h n d) = u (ix4 b h n ⟨d.val - 64, by omega⟩) * Ideal.sin (a (ix2 n ⟨d.val - 64, by omega⟩)) + u (ix4 b h n d) * Ideal.cos (a (ix2 n ⟨d.val - 64, by omega⟩)) := by
  pointwise [turned]
  rw [dif_neg hd]
  have e : (⟨64 + (d.val - 64), by omega⟩ : Fin 128) = d := Fin.ext (by simp only; omega)
  rw [e]

theorem rope_first (A B : Fin 2048 → Fin 64 → EReal) (u : Fin 256 → EReal) (n : Fin 2048) (d d' : Fin 256) (x : EReal)
    (hs : swap d = d') (ha : angle A B n d = x) (hd : d.val % 128 < 64) :
    rope A B u n d = u d * Ideal.cos x - u d' * Ideal.sin x := by
  unfold rope signed
  rw [if_pos hd, hs, ha, mul_neg, sub_eq_add_neg]

theorem rope_second (A B : Fin 2048 → Fin 64 → EReal) (u : Fin 256 → EReal) (n : Fin 2048) (d d' : Fin 256) (x : EReal)
    (hs : swap d = d') (ha : angle A B n d = x) (hd : ¬d.val % 128 < 64) :
    rope A B u n d = u d' * Ideal.sin x + u d * Ideal.cos x := by
  unfold rope signed
  rw [if_neg hd, hs, ha, add_comm]

theorem half_lo (u : FVec Ideal S16x8x2048x256 .f32) (b : Fin 16) (h : Fin 8) (n : Fin 2048) (d : Fin 128) :
    extractStridedSlice S16x8x2048x128 ![0, 0, 0, 0] u slices_S16x8x2048x256_S16x8x2048x128_0_0_0_0 (ix4 b h n d)
      = u (ix4 b h n ⟨d.val, by omega⟩) := by
  pointwise

theorem half_hi (u : FVec Ideal S16x8x2048x256 .f32) (b : Fin 16) (h : Fin 8) (n : Fin 2048) (d : Fin 128) :
    extractStridedSlice S16x8x2048x128 ![0, 0, 0, 128] u slices_S16x8x2048x256_S16x8x2048x128_0_0_0_128 (ix4 b h n d)
      = u (ix4 b h n ⟨128 + d.val, by omega⟩) := by
  pointwise

theorem roped_at (u : FVec Ideal S16x8x2048x256 .f32) (a b : FVec Ideal S2048x64 .f32) (A B : Fin 2048 → Fin 64 → EReal)
    (hA : ∀ n i, a (ix2 n i) = A n i) (hB : ∀ n i, b (ix2 n i) = B n i) (bt : Fin 16) (h : Fin 8) (n : Fin 2048) (d : Fin 256) :
    roped u a b (ix4 bt h n d) = rope A B (fun d => u (ix4 bt h n d)) n d := by
  have hm : ∀ (A : Fin 2048 → Fin 64 → EReal) (x y : ℕ) (hx hy), x = y → A n ⟨x, hx⟩ = A n ⟨y, hy⟩ := by
    intro A x y hx hy e; subst e; rfl
  unfold roped
  pointwise
  by_cases h1 : d.val < 128
  · rw [dif_pos h1]
    by_cases h2 : d.val < 64
    · rw [turned_lo _ _ _ _ _ _ h2, half_lo, half_lo, hA]
      refine (rope_first A B (fun d => u (ix4 bt h n d)) n d _ _ ?_ ?_ (by omega)).symm
      · unfold swap; rw [dif_pos h1]; exact Fin.ext (by simp only; omega)
      · unfold angle; rw [if_pos h1]; exact hm _ _ _ _ _ (by dsimp only; omega)
    · rw [turned_hi _ _ _ _ _ _ h2, half_lo, half_lo, hA]
      refine (rope_second A B (fun d => u (ix4 bt h n d)) n d _ _ ?_ ?_ (by omega)).symm
      · unfold swap; rw [dif_pos h1]; exact Fin.ext (by simp only; omega)
      · unfold angle; rw [if_pos h1]; exact hm _ _ _ _ _ (by dsimp only; omega)
  · rw [dif_neg h1]
    have hd : (⟨128 + (d.val - 128), by omega⟩ : Fin 256) = d := Fin.ext (by simp only; omega)
    by_cases h2 : d.val - 128 < 64
    · rw [turned_lo _ _ _ _ _ _ h2, half_hi, half_hi, hB]
      simp only [hd]
      refine (rope_first A B (fun d => u (ix4 bt h n d)) n d _ _ ?_ ?_ (by omega)).symm
      · unfold swap; rw [dif_neg h1]; exact Fin.ext (by simp only; omega)
      · unfold angle; rw [if_neg h1]; exact hm _ _ _ _ _ (by omega)
    · rw [turned_hi _ _ _ _ _ _ h2, half_hi, half_hi, hB]
      simp only [hd]
      refine (rope_second A B (fun d => u (ix4 bt h n d)) n d _ _ ?_ ?_ (by omega)).symm
      · unfold swap; rw [dif_neg h1]; exact Fin.ext (by simp only; omega)
      · unfold angle; rw [if_neg h1]; exact hm _ _ _ _ _ (by omega)

variable (V0 : Valuation τ sig (Elt Ideal))

theorem v88_eq : Cert.ReferenceIdeal.Value.res_main_v88 V0 = roped (Cert.ReferenceIdeal.Value.res_main_v16 V0) (Cert.ReferenceIdeal.Value.res_main_v43 V0) (Cert.ReferenceIdeal.Value.res_main_v68 V0) := rfl

theorem v145_eq : Cert.ReferenceIdeal.Value.res_main_v145 V0 = roped (Cert.ReferenceIdeal.Value.res_main_v22 V0) (Cert.ReferenceIdeal.Value.res_main_v43 V0) (Cert.ReferenceIdeal.Value.res_main_v68 V0) := rfl

open Cert.ReferenceIdeal.Value in
theorem v205_eq : res_main_v205 V0 = retained (twice (res_main_v88 V0)) (twice (res_main_v145 V0)) (twice (res_main_v26 V0))
    (start (twiceCtx (res_main_v8 V0)) (twiceCtx (res_main_v12 V0)) (res_main_v147 V0)) (res_main_v147 V0) (decays (res_main_v147 V0)) := rfl

open Cert.ReferenceIdeal.Value in
theorem row_at (n : Fin 2048) (i : Fin 64) : res_main_v43 V0 (ix2 n i) = rowAngle n i := by
  pointwise [res_main_v43, res_main_v29, res_main_v37, res_main_call0_v2, res_main_call0_v0, res_main_v27]
  rfl

open Cert.ReferenceIdeal.Value in
theorem col_at (n : Fin 2048) (i : Fin 64) : res_main_v68 V0 (ix2 n i) = colAngle n i := by
  pointwise [res_main_v68, res_main_v31, res_main_v37, res_main_call1_v4, res_main_call1_v2, res_main_call1_v0, res_main_v27]
  rfl

/-- The arguments' elements. -/
def proj (b : Fin 16) (n : Fin 2048) (l : Fin 14336) : EReal := V0 (Proc.devRef .tc main_arg0) (ix3 b n l)
def ctxt (b : Fin 16) (j : Fin 256) (l : Fin 4096) : EReal := V0 (Proc.devRef .tc main_arg1) (ix3 b j l)
def lgs (i : Fin 2) (h : Fin 8) : EReal := V0 (Proc.devRef .tc main_arg2) (ix3 0 i h)

open Cert.ReferenceIdeal.Value

theorem q_at (b : Fin 16) (h : Fin 8) (n : Fin 2048) (d : Fin 256) :
    res_main_v16 V0 (ix4 b h n d) = proj V0 b n ⟨256 * h.val + d.val, by omega⟩ := by
  unfold proj
  pointwise [res_main_v16]
  have e : (⟨h.val * 256 + d.val, by omega⟩ : Fin 14336) = ⟨256 * h.val + d.val, by omega⟩ := Fin.ext (by dsimp only; omega)
  rw [e]

theorem k_at (b : Fin 16) (h : Fin 8) (n : Fin 2048) (d : Fin 256) :
    res_main_v22 V0 (ix4 b h n d) = proj V0 b n ⟨256 * (8 + h.val) + d.val, by omega⟩ * Ideal.ofBits .f32 0x3D800000#32 := by
  unfold proj
  pointwise [res_main_v22]
  have e : (⟨2048 + (h.val * 256 + d.val), by omega⟩ : Fin 14336) = ⟨256 * (8 + h.val) + d.val, by omega⟩ := Fin.ext (by dsimp only; omega)
  rw [e]

theorem v_at (b : Fin 16) (h : Fin 8) (n : Fin 2048) (d : Fin 256) :
    res_main_v26 V0 (ix4 b h n d) = proj V0 b n ⟨256 * (16 + h.val) + d.val, by omega⟩ := by
  unfold proj
  pointwise [res_main_v26]
  have e : (⟨4096 + (h.val * 256 + d.val), by omega⟩ : Fin 14336) = ⟨256 * (16 + h.val) + d.val, by omega⟩ := Fin.ext (by dsimp only; omega)
  rw [e]

theorem kc_at (b : Fin 16) (h : Fin 8) (n : Fin 256) (d : Fin 256) :
    res_main_v8 V0 (ix4 b h n d) = ctxt V0 b n ⟨256 * h.val + d.val, by omega⟩ * Ideal.ofBits .f32 0x3D800000#32 := by
  unfold ctxt
  pointwise [res_main_v8]
  have e : (⟨h.val * 256 + d.val, by omega⟩ : Fin 4096) = ⟨256 * h.val + d.val, by omega⟩ := Fin.ext (by dsimp only; omega)
  rw [e]

theorem vc_at (b : Fin 16) (h : Fin 8) (n : Fin 256) (d : Fin 256) :
    res_main_v12 V0 (ix4 b h n d) = ctxt V0 b n ⟨256 * (8 + h.val) + d.val, by omega⟩ := by
  unfold ctxt
  pointwise [res_main_v12]
  have e : (⟨2048 + (h.val * 256 + d.val), by omega⟩ : Fin 4096) = ⟨256 * (8 + h.val) + d.val, by omega⟩ := Fin.ext (by dsimp only; omega)
  rw [e]

theorem lg_lo (h : Fin 8) : res_main_v147 V0 (ix1 ⟨h.val, by omega⟩) = -Ideal.exp (lgs V0 0 h) := by
  unfold lgs
  pointwise [res_main_v147]
  have e : (⟨h.val / 8, by omega⟩ : Fin 2) = 0 := Fin.ext (by show h.val / 8 = 0; omega)
  have e' : (⟨h.val % 8, by omega⟩ : Fin 8) = h := Fin.ext (by dsimp only; omega)
  rw [e, e']

theorem lg_hi (h : Fin 8) : res_main_v147 V0 (ix1 ⟨8 + h.val, by omega⟩) = -Ideal.exp (lgs V0 1 h) := by
  unfold lgs
  pointwise [res_main_v147]
  have e : (⟨(8 + h.val) / 8, by omega⟩ : Fin 2) = 1 := Fin.ext (by show (8 + h.val) / 8 = 1; omega)
  rw [e]

/-- Every query, key, value and context entry is finite. -/
def Finite : Prop := (∀ b n (l : Fin 14336), l.val < 6144 → IsNum (proj V0 b n l)) ∧ ∀ b j l, IsNum (ctxt V0 b j l)

/-! A head's rotated queries and keys, its values, and its context. -/

def Qs (b : Fin 16) (h : Fin 8) (n : Fin 2048) (d : Fin 256) : EReal :=
  rope rowAngle colAngle (fun d => proj V0 b n ⟨256 * h.val + d.val, by omega⟩) n d
def Ks (b : Fin 16) (h : Fin 8) (n : Fin 2048) (d : Fin 256) : EReal :=
  rope rowAngle colAngle (fun d => proj V0 b n ⟨256 * (8 + h.val) + d.val, by omega⟩) n d * Ideal.ofBits .f32 0x3D800000#32
def Vs (b : Fin 16) (h : Fin 8) (n : Fin 2048) (d : Fin 256) : EReal := proj V0 b n ⟨256 * (16 + h.val) + d.val, by omega⟩
def KCs (b : Fin 16) (h : Fin 8) (j : Fin 256) (d : Fin 256) : EReal :=
  ctxt V0 b j ⟨256 * h.val + d.val, by omega⟩ * Ideal.ofBits .f32 0x3D800000#32
def VCs (b : Fin 16) (h : Fin 8) (j : Fin 256) (d : Fin 256) : EReal := ctxt V0 b j ⟨256 * (8 + h.val) + d.val, by omega⟩

variable {V0} (hf : Finite V0) (b : Fin 16) (h : Fin 8)
include hf

theorem Qs_fin (n : Fin 2048) (d : Fin 256) : IsNum (Qs V0 b h n d) :=
  rope_fin rowAngle_fin colAngle_fin (fun d => hf.1 _ _ _ (by dsimp only; omega)) n d
theorem Ks_fin (n : Fin 2048) (d : Fin 256) : IsNum (Ks V0 b h n d) :=
  (rope_fin rowAngle_fin colAngle_fin (fun d => hf.1 _ _ _ (by dsimp only; omega)) n d).mul IsNum.c16th
theorem Vs_fin (n : Fin 2048) (d : Fin 256) : IsNum (Vs V0 b h n d) := hf.1 _ _ _ (by dsimp only; omega)
theorem KCs_fin (n : Fin 256) (d : Fin 256) : IsNum (KCs V0 b h n d) := (hf.2 _ _ _).mul IsNum.c16th
theorem VCs_fin (n : Fin 256) (d : Fin 256) : IsNum (VCs V0 b h n d) := hf.2 _ _ _

omit hf in
theorem rq_at (n : Fin 2048) (d : Fin 256) : res_main_v88 V0 (ix4 b h n d) = Qs V0 b h n d := by
  rw [v88_eq]
  refine (roped_at _ _ _ _ _ (row_at V0) (col_at V0) b h n d).trans ?_
  simp only [q_at]; rfl

theorem rk_at (n : Fin 2048) (d : Fin 256) : res_main_v145 V0 (ix4 b h n d) = Ks V0 b h n d := by
  rw [v145_eq]
  refine (roped_at _ _ _ _ _ (row_at V0) (col_at V0) b h n d).trans ?_
  simp only [k_at]
  exact rope_scale rowAngle_fin colAngle_fin (fun d => hf.1 _ _ _ (by dsimp only; omega)) IsNum.c16th n d

/-- A head's forward direction. -/
theorem forward_at (n : Fin 2048) (e : Fin 256) :
    res_main_v205 V0 (ix4 b ⟨h.val, by omega⟩ n e)
      = ((out (decay (-Ideal.exp (lgs V0 0 h))) (ctx (decay (-Ideal.exp (lgs V0 0 h))) (nums (KCs V0 b h)) (nums (VCs V0 b h)))
          (seq (Ks V0 b h)) (seq (Vs V0 b h)) (nums (Qs V0 b h) n) n.val e : ℝ) : EReal) := by
  have hl : LE.le (α := EReal) (res_main_v147 V0 (ix1 ⟨h.val, by omega⟩)) 0 := by rw [lg_lo]; exact neg_exp_le _
  rw [v205_eq, ← lg_lo]
  refine retained_at _ _ _ _ _ b ⟨h.val, by omega⟩ hl (nums (Qs V0 b h)) (seq (Ks V0 b h)) (seq (Vs V0 b h)) _ ?_ ?_ ?_ ?_ n e
  · exact fun n d => (twice_lo _ b h n d).trans ((rq_at b h n d).trans (nums_at (Qs_fin hf b h) n d))
  · exact fun n d => (twice_lo _ b h n d).trans ((rk_at hf b h n d).trans (seq_at (Ks_fin hf b h) n d))
  · exact fun n d => (twice_lo _ b h n d).trans ((v_at V0 b h n d).trans (seq_at (Vs_fin hf b h) n d))
  · exact fun d e => start_at _ _ _ b _ hl _ _ (fun j d => (twiceCtx_lo _ b h j d).trans ((kc_at V0 b h j d).trans (nums_at (KCs_fin hf b h) j d)))
      (fun j d => (twiceCtx_lo _ b h j d).trans ((vc_at V0 b h j d).trans (nums_at (VCs_fin hf b h) j d))) d e

/-- A head's backward direction, its tokens counted from the end. -/
theorem backward_at (n : Fin 2048) (e : Fin 256) :
    res_main_v205 V0 (ix4 b ⟨8 + h.val, by omega⟩ n.rev e)
      = ((out (decay (-Ideal.exp (lgs V0 1 h))) (ctxBack (decay (-Ideal.exp (lgs V0 1 h))) (nums (KCs V0 b h)) (nums (VCs V0 b h)))
          (rev (seq (Ks V0 b h))) (rev (seq (Vs V0 b h))) (nums (Qs V0 b h) n) (2047 - n.val) e : ℝ) : EReal) := by
  have hl : LE.le (α := EReal) (res_main_v147 V0 (ix1 ⟨8 + h.val, by omega⟩)) 0 := by rw [lg_hi]; exact neg_exp_le _
  have hn : 2047 - n.val = n.rev.val := by rw [Fin.val_rev]; omega
  have hb : ctxBack (decay (res_main_v147 V0 (ix1 ⟨8 + h.val, by omega⟩))) (nums (KCs V0 b h)) (nums (VCs V0 b h))
      = ctx (decay (res_main_v147 V0 (ix1 ⟨8 + h.val, by omega⟩))) (fun j => nums (KCs V0 b h) j.rev) (fun j => nums (VCs V0 b h) j.rev) :=
    funext fun d => funext fun e => (ctx_rev _ _ _ d e).symm
  have hr : ∀ (X : Fin 2048 → Fin 256 → EReal) (hX : ∀ n d, IsNum (X n d)) (n : Fin 2048) (d : Fin 256),
      X n.rev d = ((rev (seq X) n.val d : ℝ) : EReal) := fun X hX n d => by
    rw [← seq_rev X n.val n.isLt]; exact seq_at (X := fun n => X n.rev) (fun n d => hX _ _) n d
  have hq : nums (Qs V0 b h) n = (fun n => nums (Qs V0 b h) n.rev) n.rev := by simp only [Fin.rev_rev]
  rw [v205_eq, ← lg_hi, hn, hb, hq]
  refine retained_at _ _ _ _ _ b ⟨8 + h.val, by omega⟩ hl (fun n => nums (Qs V0 b h) n.rev) (rev (seq (Ks V0 b h))) (rev (seq (Vs V0 b h))) _ ?_ ?_ ?_ ?_ n.rev e
  · exact fun n d => (twice_hi _ b h n d).trans ((rq_at b h n.rev d).trans (nums_at (Qs_fin hf b h) n.rev d))
  · exact fun n d => (twice_hi _ b h n d).trans ((rk_at hf b h n.rev d).trans (hr _ (Ks_fin hf b h) n d))
  · exact fun n d => (twice_hi _ b h n d).trans ((v_at V0 b h n.rev d).trans (hr _ (Vs_fin hf b h) n d))
  · exact fun d e => start_at _ _ _ b _ hl _ _ (fun j d => (twiceCtx_hi _ b h j d).trans ((kc_at V0 b h j.rev d).trans (nums_at (KCs_fin hf b h) j.rev d)))
      (fun j d => (twiceCtx_hi _ b h j d).trans ((vc_at V0 b h j.rev d).trans (nums_at (VCs_fin hf b h) j.rev d))) d e

/-- The two directions of a head together. -/
theorem both_at (n : Fin 2048) (e : Fin 256) :
    res_main_v209 V0 (ix4 b h n e) = headOut (-Ideal.exp (lgs V0 0 h)) (-Ideal.exp (lgs V0 1 h)) (Qs V0 b h) (Ks V0 b h) (Vs V0 b h)
      (KCs V0 b h) (VCs V0 b h) n e := by
  unfold headOut
  rw [← forward_at hf, ← backward_at hf]
  pointwise [res_main_v209]
  rfl

/-- The normalisation and the gate over every head. -/
def finish (y : FVec Ideal S16x8x2048x256 .f32) (g : FVec Ideal S16x2048x2048 .f32) : FVec Ideal S16x2048x2048 .bf16 :=
  truncf .bf16 (mulf (mulf g (Host.divf (broadcastInDim S16x2048x2048 ![] bcast_S_S16x2048x2048 (constant S_ .f32 0x3F800000#32)) (addf (broadcastInDim S16x2048x2048 ![] bcast_S_S16x2048x2048 (constant S_ .f32 0x3F800000#32)) (Host.exp (Host.negf g))))) (shapeCast _ (transpose S16x2048x8x256 [0, 2, 1, 3] (mulf y (broadcastInDim S16x8x2048x256 ![0, 1, 2, 3] bcast_S16x8x2048x1_S16x8x2048x256_0_1_2_3 (Host.rsqrt (addf (Host.divf (broadcastInDim S16x8x2048x1 ![0, 1, 2] bcast_S16x8x2048_S16x8x2048x1_0_1_2 (Host.reduceAdd (mulf y y) (constant S_ .f32 0x00000000#32) reducesTo_S16x8x2048x256_S16x8x2048_d3 h_S_)) (broadcastInDim S16x8x2048x1 ![] bcast_S_S16x8x2048x1 (constant S_ .f32 0x43800000#32))) (broadcastInDim S16x8x2048x1 ![] bcast_S_S16x8x2048x1 (constant S_ .f32 0x358637BD#32)))))) transposes_S16x8x2048x256_S16x2048x8x256_0_2_1_3) shapeCasts_S16x2048x8x256_S16x2048x2048)) bitsLt_bf16_f32

omit hf in
theorem finish_at (y : FVec Ideal S16x8x2048x256 .f32) (g : FVec Ideal S16x2048x2048 .f32) (b : Fin 16) (n col : Fin 2048) :
    finish y g (ix3 b n col) = gated (g (ix3 b n col)) (fun x => y (ix4 b ⟨col.val / 256, by omega⟩ n x)) ⟨col.val % 256, by omega⟩ := by
  pointwise [finish, gated]
  have hz : ∀ x : EReal, 0 - x = -x := fun x => by rw [sub_eq_add_neg, zero_add]
  rw [hz]

theorem out_at (b : Fin 16) (n col : Fin 2048) :
    finish (res_main_v209 V0) (res_main_v222 V0) (ix3 b n col) = spec (proj V0) (ctxt V0) (lgs V0) b n col := by
  rw [finish_at]
  unfold spec headSpec
  simp only [both_at hf]
  have hg : res_main_v222 V0 (ix3 b n col) = proj V0 b n ⟨256 * (24 + col.val / 256) + col.val % 256, by omega⟩ := by
    unfold proj
    pointwise [res_main_v222]
    have e : (⟨6144 + col.val, by omega⟩ : Fin 14336) = ⟨256 * (24 + col.val / 256) + col.val % 256, by omega⟩ := Fin.ext (by dsimp only; omega)
    rw [e]
  rw [hg]
  rfl

omit hf in
/-- Where the queries, keys, values and the context are finite, the reference's result is the layer's retention. -/
theorem run (m : (ℓ : Loc nD τ sig) → Buf (Elt Ideal) ℓ) (ρ : Dev nD → PrngReg) (hf : ∀ c, Finite (StableHlo.launchContents m c)) :
    θ_run defs (onTc (τ := τ) (main (F := Ideal))) ⟨m, fun _ => 0, ρ⟩ fun r => ∀ c : Dev nD,
      r.2.mem ((c.tc : Thread nD τ).loc main_v225)
        = (fun i : S16x2048x2048.Idx => spec (proj (StableHlo.launchContents m c)) (ctxt (StableHlo.launchContents m c)) (lgs (StableHlo.launchContents m c)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (funext fun j => by
      obtain ⟨b, n, col, rfl⟩ : ∃ (b : Fin 16) (n col : Fin 2048), j = ix3 b n col := ⟨j 0, j 1, j 2, eq_ix3 j⟩
      exact out_at (hf c) b n col), (h c).2⟩) (Value.run m ρ)

end Cert.ReferenceIdeal.Hand

end
-- ==== Proof.RetClaim.lean ====
module

public import proofs.«01_k».proof.Defs
public import proofs.«01_k».proof.Proof.RetPre
public import proofs.«01_k».proof.Proof.RetValue
public import proofs.«01_k».proof.Proof.RetRef
public import proofs.«01_k».proof.Proof.RetPFrame

/-! The claims about the retention call: the frames, and the equation of its result where every query, key, value and
context entry is finite. -/

@[expose] public section

set_option maxRecDepth 16384
set_option maxHeartbeats 4000000

noncomputable section

namespace Cert.Proof.RetClaims

open Idealize.ShloMosaic Idealize.ShloMosaic.TcCoe Idealize.SL.Sem

theorem quiescent_kernel : Cert.quiescent_Kernel := fun m ρ _ => Cert.Kernel.Ret.frame m ρ

theorem quiescent_ideal : Cert.quiescent_KernelIdeal := fun m ρ _ => Cert.KernelIdeal.Ret.frame m ρ

theorem quiescent_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

variable [Cert.Pre_finite_qkv.Facts]

/-! The frames again, under the equation's precondition. -/

theorem quiescent_ideal_pre : Cert.quiescent_KernelIdeal_pre_finite_qkv := fun m ρ _ => quiescent_ideal m ρ trivial

theorem quiescent_ref_pre : Cert.quiescent_ReferenceIdeal_pre_finite_qkv := fun m ρ _ => quiescent_ref m ρ trivial

theorem algebraic : Cert.algebraic_KernelIdeal_ReferenceIdeal_pre_finite_qkv := by
  intro m g m' g' hpre hagree
  have hk : ∀ c, Cert.KernelIdeal.Ret.Finite m c := fun c =>
    ⟨fun b n l hl => Cert.Pre_finite_qkv.first_at _ _ _ (hpre c).1 b n l hl, fun b j l => Cert.Pre_finite_qkv.second_at _ _ _ (hpre c).2 b j l⟩
  have e : ∀ c, Cert.ReferenceIdeal.Hand.proj (StableHlo.launchContents m' c) = Cert.KernelIdeal.Ret.proj m c
      ∧ Cert.ReferenceIdeal.Hand.ctxt (StableHlo.launchContents m' c) = Cert.KernelIdeal.Ret.ctxt m c
      ∧ Cert.ReferenceIdeal.Hand.lgs (StableHlo.launchContents m' c) = Cert.KernelIdeal.Ret.lgs m c := fun c => by
    obtain ⟨e0, e1, e2⟩ := hagree c
    exact ⟨funext fun b => funext fun n => funext fun l => congrFun e0 (ix3 b n l),
      funext fun b => funext fun n => funext fun l => congrFun e1 (ix3 b n l),
      funext fun i => funext fun h => congrFun e2 (ix3 0 i h)⟩
  have hr : ∀ c, Cert.ReferenceIdeal.Hand.Finite (StableHlo.launchContents m' c) := fun c => by
    obtain ⟨e0, e1, _⟩ := e c
    unfold Cert.ReferenceIdeal.Hand.Finite
    rw [e0, e1]; exact hk c
  refine ⟨fun c => (Cert.KernelIdeal.Ret.dats m 0 c).arrAt 9 Cert.KernelIdeal.cfg0.N, ?_, ?_⟩
  · exact Cert.KernelIdeal.Ret.run_value m g
  · refine (θ_run Cert.ReferenceIdeal.defs _ _).mono (fun r h c => ⟨(h c).1.trans ?_, (h c).2⟩) (Cert.ReferenceIdeal.Hand.run m' g' hr)
    obtain ⟨e0, e1, e2⟩ := e c
    rw [e0, e1, e2]
    exact (Cert.KernelIdeal.Ret.final m c (hk c)).symm

end Cert.Proof.RetClaims

end
-- ==== Proof.Inproj.lean ====
module

public import proofs.«01_k».proof.Proof.Gen.InprojIdeal.Value
public import Idealize.ShloMosaic.Lib.Claim
public import Idealize.ShloMosaic.Lib.Pointwise
public import Idealize.ShloMosaic.Lib.Pipeline.ValueKit

/-! The input projection at exact arithmetic. A row of 1024 tokens is normalised once, at the first of its fourteen
    points, kept in a scratch, and multiplied with one block of columns at every point. -/

@[expose] public section

set_option maxRecDepth 16384
set_option maxHeartbeats 4000000

noncomputable section

namespace Cert.InprojIdeal.Hand

open Cert.InprojIdeal Cert.InprojIdeal.Gen Idealize.ShloMosaic Idealize.ShloMosaic.TcCoe Idealize.SL.Sem
open Idealize.ShloMosaic.Pipeline (Dat)

/-- One element of the normalised and modulated input: batch `b`, token `s`, feature `k`. -/
def hrow (x : S16x2048x2048.Idx → EReal) (g : S1x2048.Idx → EReal) (sh sc : S16x1x2048.Idx → EReal)
    (b : Fin 16) (s k : Fin 2048) : EReal :=
  x (ix3 b s k) * Ideal.rsqrt (Ideal.div (∑ d : Fin 2048, x (ix3 b s d) * x (ix3 b s d)) (Ideal.ofBits .f32 0x45000000#32) + Ideal.ofBits .f32 0x358637BD#32)
    * g (ix2 0 k) * (1 + sc (ix3 b 0 k)) + sh (ix3 b 0 k)

/-- The batch of row `r` of the flattened tokens, and the token in it. -/
def batch (r : ℕ) : Fin 16 := ⟨r / 2048 % 16, Nat.mod_lt _ (by decide)⟩
def token (r : ℕ) : Fin 2048 := ⟨r % 2048, Nat.mod_lt _ (by decide)⟩

/-- The projection, element by element. -/
def projected (x : S16x2048x2048.Idx → EReal) (g : S1x2048.Idx → EReal) (sh sc : S16x1x2048.Idx → EReal)
    (w : S1x2048x14336.Idx → EReal) : S32768x14336.Idx → EReal := fun i =>
  ∑ k : Fin 2048, hrow x g sh sc (batch (i 0).val) (token (i 0).val) k * w (ix3 0 k (i 1))

variable (m : (ℓ : Loc nD τ sig) → Buf (Elt Ideal) ℓ)

/-- What the scratch holds while row block `r` is worked on. -/
def held (c : Dev nD) (r : ℕ) : Vec Ideal S1024x2048 .bf16 := fun y =>
  hrow (m ((c : Thread nD τ).loc main_arg0)) (m ((c : Thread nD τ).loc main_arg1)) (m ((c : Thread nD τ).loc main_arg2))
    (m ((c : Thread nD τ).loc main_arg3)) (batch (1024 * r + (y 0).val)) (token (1024 * r + (y 0).val)) (y 1)

/-- Each window's block index at a point. -/
theorem idx : ∀ t : Fin cfg0.N,
    win0_0.index t = ![t.val / 14, 0] ∧ win0_1.index t = ![0, 0]
    ∧ win0_2.index t = ![t.val / 28, 0, 0] ∧ win0_3.index t = ![t.val / 28, 0, 0]
    ∧ win0_4.index t = ![0, t.val % 14] ∧ win0_5.index t = ![t.val / 14, t.val % 14] :=
  (by decide +kernel : ∀ t : Fin grid0.N, _)

theorem pay_held (c : Dev nD) (t : Fin cfg0.N) :
    k0_pay1 (iblk m c 0 t) (iblk m c 1 t) (iblk m c 3 t) (iblk m c 2 t) = held m c (t.val / 14) := by
  funext y
  unfold held
  idx_vars y
  pointwise [k0_pay1, hrow]
  blk_point [iblk, V, idx t, batch, token]

/-- The scratch after point `n`. -/
theorem carried (c : Dev nD) : ∀ (n : ℕ) (h : n < cfg0.N), (outsAt0 m c n h).2 = held m c (n / 14) := by
  intro n
  induction n with
  | zero =>
    intro h
    rw [outsAt0_A m c ⟨0, h⟩ (Nat.zero_mod _)]
    dsimp only
    funext y
    frame_out [sout0_A_0]
    exact congrFun (pay_held m c ⟨0, h⟩) y
  | succ n ih =>
    intro h
    by_cases h0 : (n + 1) % 14 = 0
    · rw [outsAt0_A m c ⟨n + 1, h⟩ h0]
      dsimp only
      funext y
      frame_out [sout0_A_0]
      exact congrFun (pay_held m c ⟨n + 1, h⟩) y
    · rw [outsAt0_B m c ⟨n + 1, h⟩ h0]
      dsimp only
      unfold sout0_B_0
      have e : (n + 1) / 14 = n / 14 := by omega
      rw [e]
      exact ih _

theorem final (c : Dev nD) : (dats m 0 c).arrAt 5 cfg0.N
    = projected (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  have key : (outsAt0 m c t.val t.isLt).1 y = k0_pay2 (held m c (t.val / 14)) (iblk m c 4 t) y := by
    by_cases h0 : t.val % 14 = 0
    · rw [outsAt0_A m c t h0]
      dsimp only
      frame_out [out0_A_5]
      rw [pay_held]
    · have ht : t.val - 1 < cfg0.N := Nat.lt_of_le_of_lt (Nat.sub_le _ _) t.isLt
      have e := carried m c (t.val - 1) ht
      have e' : (t.val - 1) / 14 = t.val / 14 := by omega
      rw [e'] at e
      rw [outsAt0_B m c t h0]
      dsimp only
      frame_out [out0_B_5]
      rw [e]
      exact congrFun (congrArg (fun X => k0_pay2 X (iblk m c 4 t)) (Memref.IsWhole.read_unread _ _)) y
  refine key.trans ?_
  idx_vars y
  pointwise [k0_pay2, projected, held]
  blk_point [iblk, V, idx t, hrow, batch, token]
  all_goals exact Fin.ext (by simp only [Nat.mul_comm])

end Cert.InprojIdeal.Hand

end
-- ==== Proof.InprojRef.lean ====
module

public import proofs.«01_k».proof.Proof.Inproj
public import proofs.«01_k».proof.Proof.Gen.InprojRefIdeal.Run

/-! The plainly written input projection computes `projected` of its arguments. -/

@[expose] public section

set_option maxRecDepth 16384
set_option maxHeartbeats 1000000

noncomputable section

namespace Cert.InprojRefIdeal.Hand

open Cert.InprojRefIdeal Cert.InprojRefIdeal.Gen Idealize.ShloMosaic Idealize.ShloMosaic.TcCoe Idealize.SL.Sem
open Cert.InprojIdeal.Hand (hrow batch token projected)

/-- The normalised and modulated input. -/
def norm (x : FVec Ideal S16x2048x2048 .f32) (g : FVec Ideal S1x2048 .f32) (sh sc : FVec Ideal S16x1x2048 .f32) : FVec Ideal S16x2048x2048 .f32 :=
  addf (mulf (mulf (mulf x (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf x x) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ g shapeCasts_S1x2048_S2048)))) (broadcastInDim S16x2048x2048 ![0, 1, 2] bcast_S16x1x2048_S16x2048x2048_0_1_2 (addf (broadcastInDim S16x1x2048 ![] bcast_S_S16x1x2048 (constant S_ .f32 0x3F800000#32)) sc))) (broadcastInDim S16x2048x2048 ![0, 1, 2] bcast_S16x1x2048_S16x2048x2048_0_1_2 sh)

theorem norm_at (x : FVec Ideal S16x2048x2048 .f32) (g : FVec Ideal S1x2048 .f32) (sh sc : FVec Ideal S16x1x2048 .f32)
    (b : Fin 16) (s k : Fin 2048) : norm x g sh sc (ix3 b s k) = hrow x g sh sc b s k := by
  pointwise [norm, hrow]

/-- One element of the product, its row flattened. -/
theorem prod_at (h : FVec Ideal S16x2048x2048 .f32) (w : FVec Ideal S1x2048x14336 .f32) (r : Fin 32768) (n : Fin 14336) :
    (truncf .bf16 (shapeCast S32768x14336 (Host.dotGeneral dot_S16x2048x2048_S2048x14336_S16x2048x14336_2_0_01_1_n_n none h (shapeCast S2048x14336 w shapeCasts_S1x2048x14336_S2048x14336 : FVec Ideal S2048x14336 .f32) : FVec Ideal S16x2048x14336 .f32) shapeCasts_S16x2048x14336_S32768x14336 : FVec Ideal S32768x14336 .f32) bitsLt_bf16_f32 : FVec Ideal S32768x14336 .bf16) (ix2 r n)
      = ∑ k : Fin 2048, h (ix3 (batch r.val) (token r.val) k) * w (ix3 0 k n) := by
  pointwise
  have e : (⟨r.val / 2048, by omega⟩ : Fin 16) = batch r.val := Fin.ext (Nat.mod_eq_of_lt (by omega)).symm
  exact Finset.sum_congr rfl fun k _ => by rw [e]; rfl

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v23)
        = projected (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun j => ?_), (h c).2⟩) (Cert.InprojRefIdeal.Value.run m ρ)
  obtain ⟨r, n, rfl⟩ : ∃ r n, j = ix2 r n := ⟨j 0, j 1, eq_ix2 j⟩
  exact (prod_at (norm _ _ _ _) _ r n).trans (Finset.sum_congr rfl fun k _ => congrArg (· * _) (norm_at _ _ _ _ _ _ _))

end Cert.InprojRefIdeal.Hand

end
-- ==== Proof.InprojClaim.lean ====
module

public import proofs.«01_k».proof.Defs
public import proofs.«01_k».proof.Proof.Inproj
public import proofs.«01_k».proof.Proof.Gen.Inproj.Frame
public import proofs.«01_k».proof.Proof.InprojRef

/-! The input projection's claims: the three frames, and the equation with the plainly written projection. -/

@[expose] public section

set_option maxRecDepth 16384
set_option maxHeartbeats 4000000

noncomputable section

namespace Cert.Proof.InprojClaims

open Idealize.ShloMosaic Idealize.ShloMosaic.TcCoe Idealize.SL.Sem

theorem quiescent_kernel : Cert.quiescent_Inproj := fun m ρ _ => Cert.Inproj.Gen.frame m ρ

theorem quiescent_ideal : Cert.quiescent_InprojIdeal := fun m ρ _ => Cert.InprojIdeal.Gen.frame m ρ

theorem quiescent_ref : Cert.quiescent_InprojRefIdeal := fun m ρ _ =>
  (θ_run Cert.InprojRefIdeal.defs _ _).mono (fun r h => ⟨fun c => (h c).2, sem_eq_zero_of_no_sems (by decide) r.2⟩)
    (Cert.InprojRefIdeal.Hand.run m ρ)

theorem algebraic : Cert.algebraic_InprojIdeal_InprojRefIdeal := by
  pair_intro
  · run_from Cert.InprojIdeal.Value.run_blocks m g
  · run_from Cert.InprojRefIdeal.Hand.run m' g'
    exact (Cert.InprojIdeal.Hand.final m c).symm

end Cert.Proof.InprojClaims

end
-- ==== Proof.Merge.lean ====
module

public import proofs.«01_k».proof.Proof.Gen.MergeIdeal.Value
public import Idealize.ShloMosaic.Lib.Claim
public import Idealize.ShloMosaic.Lib.Pointwise
public import Idealize.ShloMosaic.Lib.Pipeline.ValueKit

/-! The gated merge at exact arithmetic: each element of the kernel's output is the gate of the retention branch times
    one full row-by-column product, plus the same for the pool branch. -/

@[expose] public section

set_option maxRecDepth 16384
set_option maxHeartbeats 4000000

noncomputable section

namespace Cert.MergeIdeal.Hand

open Cert.MergeIdeal Cert.MergeIdeal.Gen Idealize.ShloMosaic Idealize.ShloMosaic.TcCoe Idealize.SL.Sem
open Idealize.ShloMosaic.Pipeline (Dat)

/-- `1 / (1 + exp (-x))`, the gate. -/
def gate (x : EReal) : EReal := Ideal.div 1 (1 + Ideal.exp (-x))

/-- The merge of two branches, element by element. -/
def merged (yr yp : S32768x2048.Idx → EReal) (p : S32768x14336.Idx → EReal) (wr wp : S1x2048x2048.Idx → EReal) :
    S32768x2048.Idx → EReal := fun i =>
  gate (p (ix2 (i 0) ⟨10240 + (i 1).val, by have := (i 1).isLt; simp at this; omega⟩)) * (∑ k : Fin 2048, yr (ix2 (i 0) k) * wr (ix3 0 k (i 1)))
  + gate (p (ix2 (i 0) ⟨12288 + (i 1).val, by have := (i 1).isLt; simp at this; omega⟩)) * (∑ k : Fin 2048, yp (ix2 (i 0) k) * wp (ix3 0 k (i 1)))

variable (m : (ℓ : Loc nD τ sig) → Buf (Elt Ideal) ℓ)

/-- Each window's block index at a point, by the output window's. -/
theorem idx : ∀ t : Fin cfg0.N,
    win0_0.index t = ![win0_6.index t 0, 0] ∧ win0_1.index t = ![win0_6.index t 0, 0]
    ∧ win0_2.index t = ![win0_6.index t 0, 10 + win0_6.index t 1] ∧ win0_3.index t = ![win0_6.index t 0, 12 + win0_6.index t 1]
    ∧ win0_4.index t = ![0, win0_6.index t 1] ∧ win0_5.index t = ![0, win0_6.index t 1] :=
  (by decide +kernel : ∀ t : Fin grid0.N, _)

theorem final (c : Dev nD) : (dats m 0 c).arrAt 6 cfg0.N
    = merged (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  frame_out
  idx_vars y
  pointwise [k0_pay1, merged, gate]
  simp only [zero_sub]
  blk_point [iblk, V, idx t]

end Cert.MergeIdeal.Hand

end
-- ==== Proof.MergeRef.lean ====
module

public import proofs.«01_k».proof.Proof.Merge
public import proofs.«01_k».proof.Proof.Gen.MergeRefIdeal.Run

/-! The plainly written merge computes `merged` of its arguments. -/

@[expose] public section

set_option maxRecDepth 16384
set_option maxHeartbeats 1000000

noncomputable section

namespace Cert.MergeRefIdeal.Hand

open Cert.MergeRefIdeal Cert.MergeRefIdeal.Gen Idealize.ShloMosaic Idealize.ShloMosaic.TcCoe Idealize.SL.Sem
open Cert.MergeIdeal.Hand (merged gate)

/-- The gate of one slice of the projection. -/
theorem gate_at (a2 : Vec Ideal S32768x14336 .bf16) (n : ℕ) (h : S32768x14336.Slices ![0, n] S32768x2048) (j : S32768x2048.Idx)
    (hb : n + (j 1).val < 14336) :
    (Host.divf (broadcastInDim S32768x2048 ![] bcast_S_S32768x2048 (constant S_ FTy.f32 1065353216#32))
            (addf (broadcastInDim S32768x2048 ![] bcast_S_S32768x2048 (constant S_ FTy.f32 1065353216#32))
              (Host.exp
                (Host.negf
                  (extf FTy.f32 (extractStridedSlice S32768x2048 ![0, n] a2 h)
                    bitsLt_bf16_f32)))) : FVec Ideal S32768x2048 .f32) j = gate (a2 (ix2 (j 0) ⟨n + (j 1).val, hb⟩)) := by
  idx_vars j
  pointwise [gate]

/-- One element of a branch's product. -/
theorem prod_at (a0 : Vec Ideal S32768x2048 .bf16) (a3 : Vec Ideal S1x2048x2048 .f32) (j : S32768x2048.Idx) :
    ((Host.dotGeneral dot_S32768x2048_S2048x2048_S32768x2048_1_0_0_1_n_n none (extf FTy.f32 a0 bitsLt_bf16_f32 : FVec Ideal S32768x2048 .f32)
            (shapeCast S2048x2048 a3 shapeCasts_S1x2048x2048_S2048x2048 : FVec Ideal S2048x2048 .f32) : FVec Ideal S32768x2048 .f32)) j = ∑ k : Fin 2048, a0 (ix2 (j 0) k) * a3 (ix3 0 k (j 1)) := by
  idx_vars j
  pointwise

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v25)
        = merged (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun j => ?_), (h c).2⟩) (Cert.MergeRefIdeal.Value.run m ρ)
  exact congrArg₂ (· + ·) (congrArg₂ (· * ·) (gate_at _ 10240 _ j _) (prod_at _ _ j)) (congrArg₂ (· * ·) (gate_at _ 12288 _ j _) (prod_at _ _ j))

end Cert.MergeRefIdeal.Hand

end
-- ==== Proof.MergeClaim.lean ====
module

public import proofs.«01_k».proof.Defs
public import proofs.«01_k».proof.Proof.Merge
public import proofs.«01_k».proof.Proof.Gen.Merge.Frame
public import proofs.«01_k».proof.Proof.MergeRef

/-! The merge's claims: the three frames, and the equation with the plainly written merge. -/

@[expose] public section

set_option maxRecDepth 16384
set_option maxHeartbeats 4000000

noncomputable section

namespace Cert.Proof.MergeClaims

open Idealize.ShloMosaic Idealize.ShloMosaic.TcCoe Idealize.SL.Sem

theorem quiescent_kernel : Cert.quiescent_Merge := fun m ρ _ => Cert.Merge.Gen.frame m ρ

theorem quiescent_ideal : Cert.quiescent_MergeIdeal := fun m ρ _ => Cert.MergeIdeal.Gen.frame m ρ

theorem quiescent_ref : Cert.quiescent_MergeRefIdeal := fun m ρ _ =>
  (θ_run Cert.MergeRefIdeal.defs _ _).mono (fun r h => ⟨fun c => (h c).2, sem_eq_zero_of_no_sems (by decide) r.2⟩)
    (Cert.MergeRefIdeal.Hand.run m ρ)

theorem algebraic : Cert.algebraic_MergeIdeal_MergeRefIdeal := by
  pair_intro
  · run_from Cert.MergeIdeal.Value.run_blocks m g
  · run_from Cert.MergeRefIdeal.Hand.run m' g'
    exact (Cert.MergeIdeal.Hand.final m c).symm

end Cert.Proof.MergeClaims

end
-- ==== Proof.Post.lean ====
module

public import proofs.«01_k».proof.Proof.Gen.PostIdeal.Value
public import proofs.«01_k».proof.Proof.Inproj
public import Idealize.ShloMosaic.Lib.Claim
public import Idealize.ShloMosaic.Lib.StableHlo.ReadAt
public import Idealize.ShloMosaic.Lib.Pointwise
public import Idealize.ShloMosaic.Lib.Pipeline.ValueKit

/-! The output projection, the two norms and the router at exact arithmetic, element by element. -/

@[expose] public section

set_option maxRecDepth 16384
set_option maxHeartbeats 4000000

noncomputable section

namespace Cert.PostIdeal.Hand

open Cert.PostIdeal Cert.PostIdeal.Gen Idealize.ShloMosaic Idealize.ShloMosaic.TcCoe Idealize.SL.Sem
open Idealize.ShloMosaic.Pipeline (Dat)
open Cert.InprojIdeal.Hand (batch token)

/-- The reciprocal root mean square of a row of 2048 elements. -/
def scaleOf (f : Fin 2048 → EReal) : EReal :=
  Ideal.rsqrt (Ideal.div (∑ d : Fin 2048, f d * f d) (Ideal.ofBits .f32 0x45000000#32) + Ideal.ofBits .f32 0x358637BD#32)

/-- One element of the output projection of row `r`. -/
def mixed (y : S32768x2048.Idx → EReal) (w : S1x2048x2048.Idx → EReal) (r : Fin 32768) (n : Fin 2048) : EReal :=
  ∑ k : Fin 2048, y (ix2 r k) * w (ix3 0 k n)

/-- The residual stream after the projection. -/
def resid (y : S32768x2048.Idx → EReal) (x : S16x2048x2048.Idx → EReal) (w : S1x2048x2048.Idx → EReal) (g : S1x2048.Idx → EReal)
    (gt : S16x1x2048.Idx → EReal) (r : Fin 32768) (n : Fin 2048) : EReal :=
  x (ix3 (batch r.val) (token r.val) n)
    + gt (ix3 (batch r.val) 0 n) * (mixed y w r n * scaleOf (mixed y w r) * g (ix2 0 n))

/-- The input of the feed-forward part. -/
def ffnIn (u : Fin 32768 → Fin 2048 → EReal) (g : S1x2048.Idx → EReal) (sh sc : S16x1x2048.Idx → EReal)
    (r : Fin 32768) (n : Fin 2048) : EReal :=
  u r n * scaleOf (u r) * g (ix2 0 n) * (1 + sc (ix3 (batch r.val) 0 n)) + sh (ix3 (batch r.val) 0 n)

/-- The router's weights, the two groups side by side in 128 lanes. -/
def lanes (wg : S1x2048x8.Idx → EReal) (we : S1x2048x64.Idx → EReal) (k : Fin 2048) (l : Fin 128) : EReal :=
  if h : l.val < 8 then wg (ix3 0 k ⟨l.val, h⟩)
  else if h' : l.val < 72 then we (ix3 0 k ⟨l.val - 8, by omega⟩) else 0

/-- The router's biases in the same lanes. -/
def biases (bg : S1x8.Idx → EReal) (be : S1x64.Idx → EReal) (l : Fin 128) : EReal :=
  if h : l.val < 8 then bg (ix2 0 ⟨l.val, h⟩)
  else if h' : l.val < 72 then be (ix2 0 ⟨l.val - 8, by omega⟩) else 0

/-- One router logit. -/
def logit (f : Fin 32768 → Fin 2048 → EReal) (wg : S1x2048x8.Idx → EReal) (bg : S1x8.Idx → EReal)
    (we : S1x2048x64.Idx → EReal) (be : S1x64.Idx → EReal) (r : Fin 32768) (l : Fin 128) : EReal :=
  (∑ k : Fin 2048, f r k * lanes wg we k l) + biases bg be l

variable (m : (ℓ : Loc nD τ sig) → Buf (Elt Ideal) ℓ)

/-- The three results over the arguments of one memory. -/
abbrev u1 (c : Dev nD) : Fin 32768 → Fin 2048 → EReal :=
  resid (m ((c : Thread nD τ).loc main_arg0)) (m ((c : Thread nD τ).loc main_arg1)) (m ((c : Thread nD τ).loc main_arg2))
    (m ((c : Thread nD τ).loc main_arg3)) (m ((c : Thread nD τ).loc main_arg5))

abbrev u2 (c : Dev nD) : Fin 32768 → Fin 2048 → EReal :=
  ffnIn (u1 m c) (m ((c : Thread nD τ).loc main_arg4)) (m ((c : Thread nD τ).loc main_arg6)) (m ((c : Thread nD τ).loc main_arg7))

abbrev u3 (c : Dev nD) : Fin 32768 → Fin 128 → EReal :=
  logit (u2 m c) (m ((c : Thread nD τ).loc main_arg8)) (m ((c : Thread nD τ).loc main_arg9)) (m ((c : Thread nD τ).loc main_arg10))
    (m ((c : Thread nD τ).loc main_arg11))

/-- Each window's block index at a point. -/
theorem idx : ∀ t : Fin cfg0.N,
    win0_0.index t = ![t.val, 0] ∧ win0_1.index t = ![t.val, 0] ∧ win0_2.index t = ![0, 0] ∧ win0_3.index t = ![0, 0]
    ∧ win0_4.index t = ![0, 0] ∧ win0_5.index t = ![t.val / 8, 0, 0] ∧ win0_6.index t = ![t.val / 8, 0, 0]
    ∧ win0_7.index t = ![t.val / 8, 0, 0] ∧ win0_8.index t = ![0, 0] ∧ win0_9.index t = ![0, 0]
    ∧ win0_10.index t = ![t.val, 0] ∧ win0_11.index t = ![t.val, 0] ∧ win0_12.index t = ![t.val, 0] :=
  (by decide +kernel : ∀ t : Fin grid0.N, _)

/-- The row of the arrays that row `y` of point `t`'s block is. -/
def row (t : Fin cfg0.N) (y : Fin 256) : Fin 32768 :=
  ⟨256 * t.val + y.val, by have h : t.val < 128 := lt_of_lt_of_eq t.isLt N_0; omega⟩

theorem pay3_at (c : Dev nD) (t : Fin cfg0.N) (y0 : Fin 256) (y1 : Fin 2048) :
    k0_pay3 (iblk m c 0 t) (iblk m c 2 t) (iblk m c 1 t) (iblk m c 5 t) (iblk m c 3 t) (ix2 y0 y1) = u1 m c (row t y0) y1 := by
  unfold u1
  pointwise [k0_pay3, resid, mixed, scaleOf]
  blk_point [iblk, V, idx t, batch, token, row]

theorem pay1_at (c : Dev nD) (t : Fin cfg0.N) (y0 : Fin 256) (y1 : Fin 2048) :
    k0_pay1 (k0_pay3 (iblk m c 0 t) (iblk m c 2 t) (iblk m c 1 t) (iblk m c 5 t) (iblk m c 3 t))
      (k0_pay4 (iblk m c 4 t)) (k0_pay5 (iblk m c 0 t) (iblk m c 2 t) (iblk m c 1 t) (iblk m c 5 t) (iblk m c 3 t))
      (iblk m c 7 t) (iblk m c 6 t) (ix2 y0 y1) = u2 m c (row t y0) y1 := by
  unfold u2
  pointwise [k0_pay1, k0_pay4, k0_pay5, ffnIn, scaleOf]
  simp only [pay3_at]
  blk_point [iblk, V, idx t, batch, token, row]

theorem lanes_at (c : Dev nD) (t : Fin cfg0.N) (k : Fin 2048) (l : Fin 128) :
    iblk m c 8 t (ix2 k l) = lanes (m ((c : Thread nD τ).loc main_arg8)) (m ((c : Thread nD τ).loc main_arg10)) k l := by
  unfold lanes
  have e : (win0_8.blk t).view.emb (ix2 k l) = ix2 k l := by blk_ext [idx t]
  blk_simp [iblk, V, idx t]
  rw [e]
  after_reads_at
  after_reads_at
  by_cases h : l.val < 8
  · simp only [dif_pos h]
  by_cases h2 : l.val < 72
  · have h3 : l.val - 8 < 64 := by omega
    simp only [dif_neg h, dif_pos h2, dif_pos h3]
  · have h3 : ¬ l.val - 8 < 64 := by omega
    simp only [dif_neg h, dif_neg h2, dif_neg h3]

theorem biases_at (c : Dev nD) (t : Fin cfg0.N) (l : Fin 128) :
    iblk m c 9 t (ix2 0 l) = biases (m ((c : Thread nD τ).loc main_arg9)) (m ((c : Thread nD τ).loc main_arg11)) l := by
  unfold biases
  have e : (win0_9.blk t).view.emb (ix2 0 l) = ix2 0 l := by blk_ext [idx t]
  blk_simp [iblk, V, idx t]
  rw [e]
  after_reads_at
  after_reads_at
  by_cases h : l.val < 8
  · simp only [dif_pos h]
  by_cases h2 : l.val < 72
  · have h3 : l.val - 8 < 64 := by omega
    simp only [dif_neg h, dif_pos h2, dif_pos h3]
  · have h3 : ¬ l.val - 8 < 64 := by omega
    simp only [dif_neg h, dif_neg h2, dif_neg h3]

theorem pay2_at (c : Dev nD) (t : Fin cfg0.N) (y0 : Fin 256) (l : Fin 128) :
    k0_pay2 (k0_pay3 (iblk m c 0 t) (iblk m c 2 t) (iblk m c 1 t) (iblk m c 5 t) (iblk m c 3 t))
      (k0_pay4 (iblk m c 4 t)) (k0_pay5 (iblk m c 0 t) (iblk m c 2 t) (iblk m c 1 t) (iblk m c 5 t) (iblk m c 3 t))
      (iblk m c 7 t) (iblk m c 6 t) (iblk m c 8 t) (iblk m c 9 t) (ix2 y0 l) = u3 m c (row t y0) l := by
  unfold u3 logit
  pointwise [k0_pay2]
  simp only [pay1_at, lanes_at, biases_at]

/-- What the body leaves in its second and third windows, over the blocks read whole. -/
theorem out11_eq (x0 : Vec Ideal S256x2048 .bf16) (x1 : Vec Ideal S256x2048 .f32) (x2 : Vec Ideal S2048x2048 .bf16)
    (x3 x4 : Vec Ideal S1x2048 .f32) (x5 x6 x7 : Vec Ideal S1x1x2048 .f32) (x8 : Vec Ideal S2048x128 .bf16)
    (x9 : Vec Ideal S1x128 .f32) :
    out0_11 x0 x1 x2 x3 x4 x5 x6 x7 x8 x9
      = k0_pay1 (k0_pay3 x0 x2 x1 x5 x3) (k0_pay4 x4) (k0_pay5 x0 x2 x1 x5 x3) x7 x6 := by
  unfold_out out0_11
  frame_out

theorem out12_eq (x0 : Vec Ideal S256x2048 .bf16) (x1 : Vec Ideal S256x2048 .f32) (x2 : Vec Ideal S2048x2048 .bf16)
    (x3 x4 : Vec Ideal S1x2048 .f32) (x5 x6 x7 : Vec Ideal S1x1x2048 .f32) (x8 : Vec Ideal S2048x128 .bf16)
    (x9 : Vec Ideal S1x128 .f32) :
    out0_12 x0 x1 x2 x3 x4 x5 x6 x7 x8 x9
      = k0_pay2 (k0_pay3 x0 x2 x1 x5 x3) (k0_pay4 x4) (k0_pay5 x0 x2 x1 x5 x3) x7 x6 x8 x9 := by
  unfold_out out0_12
  frame_out

theorem final10 (c : Dev nD) : (dats m 0 c).arrAt 10 cfg0.N = fun i : S32768x2048.Idx => u1 m c (i 0) (i 1) := by
  refine (dats m 0 c).arrAt_eq_of_covers 10 _ (by decide +kernel) fun t hf y => ?_
  blk_simp
  rw [after0_10]
  frame_out
  idx_vars y
  refine (pay3_at m c t y0 y1).trans ?_
  have e : (win0_10.blk t).view.emb (ix2 y0 y1) = ix2 (row t y0) y1 := by blk_ext [idx t, row]
  exact congrArg (fun i : S32768x2048.Idx => u1 m c (i 0) (i 1)) e.symm

theorem gather11 (c : Dev nD) (U : Fin 32768 → Fin 2048 → EReal)
    (h : ∀ (t : Fin cfg0.N) (y0 : Fin 256) (y1 : Fin 2048),
      k0_pay1 (k0_pay3 (iblk m c 0 t) (iblk m c 2 t) (iblk m c 1 t) (iblk m c 5 t) (iblk m c 3 t))
      (k0_pay4 (iblk m c 4 t)) (k0_pay5 (iblk m c 0 t) (iblk m c 2 t) (iblk m c 1 t) (iblk m c 5 t) (iblk m c 3 t))
      (iblk m c 7 t) (iblk m c 6 t) (ix2 y0 y1) = U (row t y0) y1) :
    (dats m 0 c).arrAt 11 cfg0.N = fun i : S32768x2048.Idx => U (i 0) (i 1) := by
  refine (dats m 0 c).arrAt_eq_of_covers 11 _ (by decide +kernel) fun t hf y => ?_
  blk_simp
  rw [after0_11, out11_eq]
  idx_vars y
  refine (h t y0 y1).trans ?_
  have e : (win0_11.blk t).view.emb (ix2 y0 y1) = ix2 (row t y0) y1 := by blk_ext [idx t, row]
  exact congrArg (fun i : S32768x2048.Idx => U (i 0) (i 1)) e.symm

theorem final11 (c : Dev nD) : (dats m 0 c).arrAt 11 cfg0.N = fun i : S32768x2048.Idx => u2 m c (i 0) (i 1) :=
  gather11 m c (u2 m c) (pay1_at m c)

theorem gather12 (c : Dev nD) (U : Fin 32768 → Fin 128 → EReal)
    (h : ∀ (t : Fin cfg0.N) (y0 : Fin 256) (y1 : Fin 128),
      k0_pay2 (k0_pay3 (iblk m c 0 t) (iblk m c 2 t) (iblk m c 1 t) (iblk m c 5 t) (iblk m c 3 t))
      (k0_pay4 (iblk m c 4 t)) (k0_pay5 (iblk m c 0 t) (iblk m c 2 t) (iblk m c 1 t) (iblk m c 5 t) (iblk m c 3 t))
      (iblk m c 7 t) (iblk m c 6 t) (iblk m c 8 t) (iblk m c 9 t) (ix2 y0 y1) = U (row t y0) y1) :
    (dats m 0 c).arrAt 12 cfg0.N = fun i : S32768x128.Idx => U (i 0) (i 1) := by
  refine (dats m 0 c).arrAt_eq_of_covers 12 _ (by decide +kernel) fun t hf y => ?_
  blk_simp
  rw [after0_12, out12_eq]
  idx_vars y
  refine (h t y0 y1).trans ?_
  have e : (win0_12.blk t).view.emb (ix2 y0 y1) = ix2 (row t y0) y1 := by blk_ext [idx t, row]
  exact congrArg (fun i : S32768x128.Idx => U (i 0) (i 1)) e.symm

theorem final12 (c : Dev nD) : (dats m 0 c).arrAt 12 cfg0.N = fun i : S32768x128.Idx => u3 m c (i 0) (i 1) :=
  gather12 m c (u3 m c) (pay2_at m c)

end Cert.PostIdeal.Hand

end
-- ==== Proof.PostRef.lean ====
module

public import proofs.«01_k».proof.Proof.Post
public import proofs.«01_k».proof.Proof.Gen.PostRefIdeal.Run

/-! The plainly written output projection, norms and router compute `resid`, `ffnIn` and `logit` of their arguments. -/

@[expose] public section

set_option maxRecDepth 16384
set_option maxHeartbeats 1000000

noncomputable section

namespace Cert.PostRefIdeal.Hand

open Cert.PostRefIdeal Cert.PostRefIdeal.Gen Idealize.ShloMosaic Idealize.ShloMosaic.TcCoe Idealize.SL.Sem
open Cert.InprojIdeal.Hand (batch token)
open Cert.PostIdeal.Hand (scaleOf mixed resid ffnIn lanes biases logit)

/-- The output projection, the residual stream and the feed-forward input, as the reference spells them. -/
def mix (y : FVec Ideal S32768x2048 .bf16) (w : FVec Ideal S1x2048x2048 .f32) : FVec Ideal S16x2048x2048 .f32 :=
  Host.dotGeneral dot_S16x2048x2048_S2048x2048_S16x2048x2048_2_0_01_1_n_n none (shapeCast _ (extf .f32 y bitsLt_bf16_f32) shapeCasts_S32768x2048_S16x2048x2048) (shapeCast _ w shapeCasts_S1x2048x2048_S2048x2048)

def added (x : FVec Ideal S16x2048x2048 .f32) (u : FVec Ideal S16x2048x2048 .f32) (g : FVec Ideal S1x2048 .f32) (gt : FVec Ideal S16x1x2048 .f32) : FVec Ideal S16x2048x2048 .f32 :=
  addf x (mulf (broadcastInDim S16x2048x2048 ![0, 1, 2] bcast_S16x1x2048_S16x2048x2048_0_1_2 gt) (mulf (mulf u (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf u u) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ g shapeCasts_S1x2048_S2048)))))

def normed (u : FVec Ideal S16x2048x2048 .f32) (g : FVec Ideal S1x2048 .f32) (sh sc : FVec Ideal S16x1x2048 .f32) : FVec Ideal S16x2048x2048 .f32 :=
  addf (mulf (mulf (mulf u (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf u u) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 (shapeCast _ g shapeCasts_S1x2048_S2048)))) (broadcastInDim S16x2048x2048 ![0, 1, 2] bcast_S16x1x2048_S16x2048x2048_0_1_2 (addf (broadcastInDim S16x1x2048 ![] bcast_S_S16x1x2048 (constant S_ .f32 0x3F800000#32)) sc))) (broadcastInDim S16x2048x2048 ![0, 1, 2] bcast_S16x1x2048_S16x2048x2048_0_1_2 sh)

def flat (u : FVec Ideal S16x2048x2048 .f32) : FVec Ideal S32768x2048 .f32 := shapeCast _ u shapeCasts_S16x2048x2048_S32768x2048

def groupLogits (f : FVec Ideal S32768x2048 .f32) (w : FVec Ideal S1x2048x8 .f32) (b : FVec Ideal S1x8 .f32) : FVec Ideal S32768x8 .f32 :=
  addf (Host.dotGeneral dot_S32768x2048_S2048x8_S32768x8_1_0_0_1_n_n none f (shapeCast _ w shapeCasts_S1x2048x8_S2048x8)) (broadcastInDim S32768x8 ![0, 1] bcast_S1x8_S32768x8_0_1 (broadcastInDim S1x8 ![1] bcast_S8_S1x8_1 (shapeCast _ b shapeCasts_S1x8_S8)))

def expertLogits (f : FVec Ideal S32768x2048 .f32) (w : FVec Ideal S1x2048x64 .f32) (b : FVec Ideal S1x64 .f32) : FVec Ideal S32768x64 .f32 :=
  addf (Host.dotGeneral dot_S32768x2048_S2048x64_S32768x64_1_0_0_1_n_n none f (shapeCast _ w shapeCasts_S1x2048x64_S2048x64)) (broadcastInDim S32768x64 ![0, 1] bcast_S1x64_S32768x64_0_1 (broadcastInDim S1x64 ![1] bcast_S64_S1x64_1 (shapeCast _ b shapeCasts_S1x64_S64)))

def allLogits (a : FVec Ideal S32768x8 .f32) (b : FVec Ideal S32768x64 .f32) : FVec Ideal S32768x128 .f32 :=
  concatenate S32768x128 1 [⟨S32768x8, a⟩, ⟨S32768x64, b⟩, ⟨S32768x56, (broadcastInDim S32768x56 ![] bcast_S_S32768x56 (constant S_ .f32 0x00000000#32) : FVec Ideal S32768x56 .f32)⟩] concatenates_S32768x8_S32768x64_S32768x56_S32768x128_d1

/-- The row of the flattened arrays that a batch and a token are. -/
def flatRow (b : Fin 16) (s : Fin 2048) : Fin 32768 := ⟨b.val * 2048 + s.val, by omega⟩

theorem batch_flatRow (b : Fin 16) (s : Fin 2048) : batch (flatRow b s).val = b :=
  Fin.ext (by show (b.val * 2048 + s.val) / 2048 % 16 = b.val; omega)

theorem token_flatRow (b : Fin 16) (s : Fin 2048) : token (flatRow b s).val = s :=
  Fin.ext (by show (b.val * 2048 + s.val) % 2048 = s.val; omega)

theorem flat_at (u : FVec Ideal S16x2048x2048 .f32) (r : Fin 32768) (n : Fin 2048) : flat u (ix2 r n) = u (ix3 (batch r.val) (token r.val) n) := by
  pointwise [flat]
  have e : (⟨r.val / 2048, by omega⟩ : Fin 16) = batch r.val := Fin.ext (Nat.mod_eq_of_lt (by omega)).symm
  rw [e]
  rfl

theorem flatRow_eq (r : Fin 32768) : flatRow (batch r.val) (token r.val) = r :=
  Fin.ext (by show r.val / 2048 % 16 * 2048 + r.val % 2048 = r.val; omega)

theorem mix_at (y : FVec Ideal S32768x2048 .bf16) (w : FVec Ideal S1x2048x2048 .f32) (b : Fin 16) (s n : Fin 2048) :
    mix y w (ix3 b s n) = mixed y w (flatRow b s) n := by
  pointwise [mix, mixed, flatRow]

theorem added_at (x : FVec Ideal S16x2048x2048 .f32) (y : FVec Ideal S32768x2048 .bf16) (w : FVec Ideal S1x2048x2048 .f32) (g : FVec Ideal S1x2048 .f32) (gt : FVec Ideal S16x1x2048 .f32)
    (b : Fin 16) (s n : Fin 2048) : added x (mix y w) g gt (ix3 b s n) = resid y x w g gt (flatRow b s) n := by
  unfold resid scaleOf
  rw [batch_flatRow, token_flatRow]
  pointwise [added]
  simp only [mix_at]

theorem normed_at (u : FVec Ideal S16x2048x2048 .f32) (U : Fin 32768 → Fin 2048 → EReal) (h : ∀ b s n, u (ix3 b s n) = U (flatRow b s) n)
    (g : FVec Ideal S1x2048 .f32) (sh sc : FVec Ideal S16x1x2048 .f32) (b : Fin 16) (s n : Fin 2048) :
    normed u g sh sc (ix3 b s n) = ffnIn U g sh sc (flatRow b s) n := by
  unfold ffnIn scaleOf
  rw [batch_flatRow]
  pointwise [normed]
  simp only [h]

theorem group_at (f : FVec Ideal S32768x2048 .f32) (w : FVec Ideal S1x2048x8 .f32) (b : FVec Ideal S1x8 .f32) (r : Fin 32768) (l : Fin 8) :
    groupLogits f w b (ix2 r l) = (∑ k : Fin 2048, f (ix2 r k) * w (ix3 0 k l)) + b (ix2 0 l) := by
  pointwise [groupLogits]

theorem expert_at (f : FVec Ideal S32768x2048 .f32) (w : FVec Ideal S1x2048x64 .f32) (b : FVec Ideal S1x64 .f32) (r : Fin 32768) (l : Fin 64) :
    expertLogits f w b (ix2 r l) = (∑ k : Fin 2048, f (ix2 r k) * w (ix3 0 k l)) + b (ix2 0 l) := by
  pointwise [expertLogits]

theorem all_at (a : FVec Ideal S32768x8 .f32) (b : FVec Ideal S32768x64 .f32) (r : Fin 32768) (l : Fin 128) :
    allLogits a b (ix2 r l) = if h : l.val < 8 then a (ix2 r ⟨l.val, h⟩)
      else if h' : l.val < 72 then b (ix2 r ⟨l.val - 8, by omega⟩) else 0 := by
  pointwise [allLogits]
  by_cases h : l.val < 8
  · simp only [dif_pos h]
  by_cases h' : l.val < 72
  · have h3 : l.val - 8 < 64 := by omega
    simp only [dif_neg h, dif_pos h', dif_pos h3]
  · have h3 : ¬ l.val - 8 < 64 := by omega
    simp only [dif_neg h, dif_neg h', dif_neg h3]

/-- The joined logits, lane by lane, are the products with the joined weights. -/
theorem logits_at (f : FVec Ideal S32768x2048 .f32) (U : Fin 32768 → Fin 2048 → EReal) (hf : ∀ r k, f (ix2 r k) = U r k)
    (wg : FVec Ideal S1x2048x8 .f32) (bg : FVec Ideal S1x8 .f32) (we : FVec Ideal S1x2048x64 .f32) (be : FVec Ideal S1x64 .f32)
    (r : Fin 32768) (l : Fin 128) :
    allLogits (groupLogits f wg bg) (expertLogits f we be) (ix2 r l) = logit U wg bg we be r l := by
  rw [all_at]
  unfold logit lanes biases
  by_cases h : l.val < 8
  · simp only [dif_pos h, group_at, hf]
  by_cases h' : l.val < 72
  · simp only [dif_neg h, dif_pos h', expert_at, hf]
  · simp only [dif_neg h, dif_neg h', mul_zero, Finset.sum_const_zero, add_zero]

variable (m : (ℓ : Loc nD τ sig) → Buf (Elt Ideal) ℓ) (ρ : Dev nD → PrngReg)

abbrev r1 (c : Dev nD) : Fin 32768 → Fin 2048 → EReal :=
  resid (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg5))

abbrev r2 (c : Dev nD) : Fin 32768 → Fin 2048 → EReal :=
  ffnIn (r1 m c) (m ((c.tc : Thread nD τ).loc main_arg4)) (m ((c.tc : Thread nD τ).loc main_arg6)) (m ((c.tc : Thread nD τ).loc main_arg7))

abbrev r3 (c : Dev nD) : Fin 32768 → Fin 128 → EReal :=
  logit (r2 m c) (m ((c.tc : Thread nD τ).loc main_arg8)) (m ((c.tc : Thread nD τ).loc main_arg9)) (m ((c.tc : Thread nD τ).loc main_arg10))
    (m ((c.tc : Thread nD τ).loc main_arg11))

theorem flat_resid (x : FVec Ideal S16x2048x2048 .f32) (y : FVec Ideal S32768x2048 .bf16) (w : FVec Ideal S1x2048x2048 .f32) (g : FVec Ideal S1x2048 .f32) (gt : FVec Ideal S16x1x2048 .f32)
    (r : Fin 32768) (n : Fin 2048) : flat (added x (mix y w) g gt) (ix2 r n) = resid y x w g gt r n := by
  rw [flat_at, added_at, flatRow_eq]

theorem flat_normed (x : FVec Ideal S16x2048x2048 .f32) (y : FVec Ideal S32768x2048 .bf16) (w : FVec Ideal S1x2048x2048 .f32) (g g' : FVec Ideal S1x2048 .f32) (gt sh sc : FVec Ideal S16x1x2048 .f32)
    (r : Fin 32768) (n : Fin 2048) :
    flat (normed (added x (mix y w) g gt) g' sh sc) (ix2 r n) = ffnIn (resid y x w g gt) g' sh sc r n := by
  rw [flat_at, normed_at _ (resid y x w g gt) (added_at x y w g gt), flatRow_eq]

theorem run : θ_run defs (onTc (τ := τ) (main (F := Ideal))) ⟨m, fun _ => 0, ρ⟩ fun r => ∀ c : Dev nD,
      r.2.mem ((c.tc : Thread nD τ).loc main_v55) = (fun i : S32768x2048.Idx => r1 m c (i 0) (i 1))
      ∧ r.2.mem ((c.tc : Thread nD τ).loc main_v41) = (fun i : S32768x2048.Idx => r2 m c (i 0) (i 1))
      ∧ r.2.mem ((c.tc : Thread nD τ).loc main_v56) = (fun i : S32768x128.Idx => r3 m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun r h c => ⟨(h c).1.trans (funext fun j => ?_), (h c).2.1.trans (funext fun j => ?_),
    (h c).2.2.1.trans (funext fun j => ?_), (h c).2.2.2⟩) (Cert.PostRefIdeal.Value.run m ρ)
  · obtain ⟨r, n, rfl⟩ : ∃ r n, j = ix2 r n := ⟨j 0, j 1, eq_ix2 j⟩
    exact flat_resid _ _ _ _ _ r n
  · obtain ⟨r, n, rfl⟩ : ∃ r n, j = ix2 r n := ⟨j 0, j 1, eq_ix2 j⟩
    exact flat_normed _ _ _ _ _ _ _ _ r n
  · obtain ⟨r, n, rfl⟩ : ∃ r n, j = ix2 r n := ⟨j 0, j 1, eq_ix2 j⟩
    exact logits_at (flat (normed (added _ (mix _ _) _ _) _ _ _)) (r2 m c) (flat_normed _ _ _ _ _ _ _ _) _ _ _ _ r n

end Cert.PostRefIdeal.Hand

end
-- ==== Proof.PostClaim.lean ====
module

public import proofs.«01_k».proof.Defs
public import proofs.«01_k».proof.Proof.Post
public import proofs.«01_k».proof.Proof.Gen.Post.Frame
public import proofs.«01_k».proof.Proof.PostRef

/-! The claims about the output projection, the norms and the router: the three frames, and the equation of all three results. -/

@[expose] public section

set_option maxRecDepth 16384
set_option maxHeartbeats 4000000

noncomputable section

namespace Cert.Proof.PostClaims

open Idealize.ShloMosaic Idealize.ShloMosaic.TcCoe Idealize.SL.Sem

theorem quiescent_kernel : Cert.quiescent_Post := fun m ρ _ => Cert.Post.Gen.frame m ρ

theorem quiescent_ideal : Cert.quiescent_PostIdeal := fun m ρ _ => Cert.PostIdeal.Gen.frame m ρ

theorem quiescent_ref : Cert.quiescent_PostRefIdeal := fun m ρ _ =>
  (θ_run Cert.PostRefIdeal.defs _ _).mono (fun r h => ⟨fun c => (h c).2.2.2, sem_eq_zero_of_no_sems (by decide) r.2⟩)
    (Cert.PostRefIdeal.Hand.run m ρ)

theorem algebraic : Cert.algebraic_PostIdeal_PostRefIdeal := by
  pair_intro
  · run_from Cert.PostIdeal.Value.run_blocks m g
  · run_from Cert.PostRefIdeal.Hand.run m' g'
    all_goals
      obtain ⟨e0, e1, e2, e3, e4, e5, e6, e7, e8, e9, e10, e11⟩ := hagree c
      have h1 : Cert.PostRefIdeal.Hand.r1 m' c = Cert.PostIdeal.Hand.u1 m c := by
        unfold Cert.PostRefIdeal.Hand.r1 Cert.PostIdeal.Hand.u1
        rw [e0, e1, e2, e3, e5]
      have h2 : Cert.PostRefIdeal.Hand.r2 m' c = Cert.PostIdeal.Hand.u2 m c := by
        unfold Cert.PostRefIdeal.Hand.r2 Cert.PostIdeal.Hand.u2
        rw [h1, e4, e6, e7]
      have h3 : Cert.PostRefIdeal.Hand.r3 m' c = Cert.PostIdeal.Hand.u3 m c := by
        unfold Cert.PostRefIdeal.Hand.r3 Cert.PostIdeal.Hand.u3
        rw [h2, e8, e9, e10, e11]
      first
      | (rw [h1]; exact (Cert.PostIdeal.Hand.final10 m c).symm)
      | (rw [h2]; exact (Cert.PostIdeal.Hand.final11 m c).symm)
      | (rw [h3]; exact (Cert.PostIdeal.Hand.final12 m c).symm)

end Cert.Proof.PostClaims

end
-- ==== Proof.Context.lean ====
module

public import proofs.«01_k».proof.Proof.Gen.ContextIdeal.Value
public import Idealize.ShloMosaic.Lib.Claim
public import Idealize.ShloMosaic.Lib.Pointwise
public import Idealize.ShloMosaic.Lib.Pipeline.ValueKit

/-! The context's keys and values at exact arithmetic. 1024 rows of the context are normalised once, at the first of
    their four points, and multiplied with one block of the key and value columns at every point. -/

@[expose] public section

set_option maxRecDepth 16384
set_option maxHeartbeats 4000000

noncomputable section

namespace Cert.ContextIdeal.Hand

open Cert.ContextIdeal Cert.ContextIdeal.Gen Idealize.ShloMosaic Idealize.ShloMosaic.TcCoe Idealize.SL.Sem
open Idealize.ShloMosaic.Pipeline (Dat)

/-- Feature `k` of context token `s` of batch `b`, normalised and modulated. All batches share one modulation. -/
def feature (x : S16x256x2048.Idx → EReal) (g : S1x2048.Idx → EReal) (sh sc : S1x1x2048.Idx → EReal)
    (b : Fin 16) (s : Fin 256) (k : Fin 2048) : EReal :=
  x (ix3 b s k) * Ideal.rsqrt (Ideal.div (∑ d : Fin 2048, x (ix3 b s d) * x (ix3 b s d)) (Ideal.ofBits .f32 0x45000000#32) + Ideal.ofBits .f32 0x358637BD#32)
    * g (ix2 0 k) * (1 + sc (ix3 0 0 k)) + sh (ix3 0 0 k)

/-- The batch of a row of the flattened context, and its token. -/
def batch (r : ℕ) : Fin 16 := ⟨r / 256 % 16, Nat.mod_lt _ (by decide)⟩
def token (r : ℕ) : Fin 256 := ⟨r % 256, Nat.mod_lt _ (by decide)⟩

/-- The column of the weights that gives key or value lane `n`: the queries' 2048 columns come first. -/
def column (n : Fin 4096) : Fin 14336 := ⟨2048 + n.val, by omega⟩

/-- The keys and values, side by side. -/
def keysValues (x : S16x256x2048.Idx → EReal) (g : S1x2048.Idx → EReal) (sh sc : S1x1x2048.Idx → EReal)
    (w : S1x2048x14336.Idx → EReal) : S4096x4096.Idx → EReal := fun i =>
  ∑ k : Fin 2048, feature x g sh sc (batch (i 0).val) (token (i 0).val) k * w (ix3 0 k (column (i 1)))

variable (m : (ℓ : Loc nD τ sig) → Buf (Elt Ideal) ℓ)

/-- What the scratch holds while rows `1024 r` to `1024 r + 1023` are worked on. -/
def held (c : Dev nD) (r : ℕ) : Vec Ideal S1024x2048 .bf16 := fun y =>
  feature (m ((c : Thread nD τ).loc main_arg0)) (m ((c : Thread nD τ).loc main_arg1)) (m ((c : Thread nD τ).loc main_arg2))
    (m ((c : Thread nD τ).loc main_arg3)) (batch (1024 * r + (y 0).val)) (token (1024 * r + (y 0).val)) (y 1)

/-- Each window's block at a point. The weights' blocks start at the third. -/
theorem idx : ∀ t : Fin cfg0.N,
    win0_0.index t = ![t.val / 4, 0] ∧ win0_1.index t = ![0, 0]
    ∧ win0_2.index t = ![0, 0, 0] ∧ win0_3.index t = ![0, 0, 0]
    ∧ win0_4.index t = ![0, t.val % 4 + 2] ∧ win0_5.index t = ![t.val / 4, t.val % 4] :=
  (by decide +kernel : ∀ t : Fin grid0.N, _)

theorem pay_held (c : Dev nD) (t : Fin cfg0.N) :
    k0_pay1 (iblk m c 0 t) (iblk m c 1 t) (iblk m c 3 t) (iblk m c 2 t) = held m c (t.val / 4) := by
  funext y
  unfold held
  idx_vars y
  pointwise [k0_pay1, feature]
  blk_point [iblk, V, idx t, batch, token]

/-- The scratch after a point: its own rows' features, whether it made them or found them. -/
theorem carried (c : Dev nD) : ∀ (n : ℕ) (h : n < cfg0.N), (outsAt0 m c n h).2 = held m c (n / 4) := by
  intro n
  induction n with
  | zero =>
    intro h
    rw [outsAt0_A m c ⟨0, h⟩ (Nat.zero_mod _)]
    dsimp only
    funext y
    frame_out [sout0_A_0]
    exact congrFun (pay_held m c ⟨0, h⟩) y
  | succ n ih =>
    intro h
    by_cases h0 : (n + 1) % 4 = 0
    · rw [outsAt0_A m c ⟨n + 1, h⟩ h0]
      dsimp only
      funext y
      frame_out [sout0_A_0]
      exact congrFun (pay_held m c ⟨n + 1, h⟩) y
    · rw [outsAt0_B m c ⟨n + 1, h⟩ h0]
      dsimp only
      unfold sout0_B_0
      have e : (n + 1) / 4 = n / 4 := by omega
      rw [e]
      exact ih _

/-- The block a point writes, from the features held and its block of columns. -/
theorem written (c : Dev nD) (t : Fin cfg0.N) (y : S1024x1024.Idx) :
    (outsAt0 m c t.val t.isLt).1 y = k0_pay2 (held m c (t.val / 4)) (iblk m c 4 t) y := by
  by_cases h0 : t.val % 4 = 0
  · rw [outsAt0_A m c t h0]
    dsimp only
    frame_out [out0_A_5]
    rw [pay_held]
  · have e := carried m c (t.val - 1) (Nat.lt_of_le_of_lt (Nat.sub_le _ _) t.isLt)
    have e' : (t.val - 1) / 4 = t.val / 4 := by omega
    rw [e'] at e
    rw [outsAt0_B m c t h0]
    dsimp only
    frame_out [out0_B_5]
    rw [e]
    exact congrFun (congrArg (fun X => k0_pay2 X (iblk m c 4 t)) (Memref.IsWhole.read_unread _ _)) y

theorem final (c : Dev nD) : (dats m 0 c).arrAt 5 cfg0.N
    = keysValues (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  refine (written m c t y).trans ?_
  idx_vars y
  pointwise [k0_pay2, keysValues, held]
  blk_point [iblk, V, idx t, feature, batch, token, column]
  all_goals exact Fin.ext (by simp only; omega)

end Cert.ContextIdeal.Hand

end
-- ==== Proof.ContextRef.lean ====
module

public import proofs.«01_k».proof.Proof.Context
public import proofs.«01_k».proof.Proof.Gen.ContextRefIdeal.Run

/-! The plainly written keys and values of the context are `keysValues` of the arguments. -/

@[expose] public section

set_option maxRecDepth 16384
set_option maxHeartbeats 1000000

noncomputable section

namespace Cert.ContextRefIdeal.Hand

open Cert.ContextRefIdeal Cert.ContextRefIdeal.Gen Idealize.ShloMosaic Idealize.ShloMosaic.TcCoe Idealize.SL.Sem
open Cert.ContextIdeal.Hand (feature batch token column keysValues)

/-- The normalised and modulated context. -/
def norm (x : FVec Ideal S16x256x2048 .f32) (g : FVec Ideal S1x2048 .f32) (sh sc : FVec Ideal S1x1x2048 .f32) : FVec Ideal S16x256x2048 .f32 :=
  addf (mulf (mulf (mulf x (broadcastInDim S16x256x2048 ![0, 1, 2] bcast_S16x256x1_S16x256x2048_0_1_2 (Host.rsqrt (addf (Host.divf (broadcastInDim S16x256x1 ![0, 1] bcast_S16x256_S16x256x1_0_1 (Host.reduceAdd (mulf x x) (constant S_ .f32 0x00000000#32) reducesTo_S16x256x2048_S16x256_d2 h_S_)) (broadcastInDim S16x256x1 ![] bcast_S_S16x256x1 (constant S_ .f32 0x45000000#32))) (broadcastInDim S16x256x1 ![] bcast_S_S16x256x1 (constant S_ .f32 0x358637BD#32)))))) (broadcastInDim S16x256x2048 ![0, 1, 2] bcast_S1x1x2048_S16x256x2048_0_1_2 (broadcastInDim S1x1x2048 ![2] bcast_S2048_S1x1x2048_2 (shapeCast _ g shapeCasts_S1x2048_S2048)))) (broadcastInDim S16x256x2048 ![0, 1, 2] bcast_S1x1x2048_S16x256x2048_0_1_2 (addf (broadcastInDim S1x1x2048 ![] bcast_S_S1x1x2048 (constant S_ .f32 0x3F800000#32)) sc))) (broadcastInDim S16x256x2048 ![0, 1, 2] bcast_S1x1x2048_S16x256x2048_0_1_2 sh)

theorem norm_at (x : FVec Ideal S16x256x2048 .f32) (g : FVec Ideal S1x2048 .f32) (sh sc : FVec Ideal S1x1x2048 .f32)
    (b : Fin 16) (s : Fin 256) (k : Fin 2048) : norm x g sh sc (ix3 b s k) = feature x g sh sc b s k := by
  pointwise [norm, feature]

/-- The key and value columns of the weights. -/
def weights (w : FVec Ideal S1x2048x14336 .f32) : FVec Ideal S2048x4096 .f32 :=
  extractStridedSlice S2048x4096 ![0, 2048] (shapeCast S2048x14336 w shapeCasts_S1x2048x14336_S2048x14336 : FVec Ideal S2048x14336 .f32) slices_S2048x14336_S2048x4096_0_2048

theorem weights_at (w : FVec Ideal S1x2048x14336 .f32) (k : Fin 2048) (n : Fin 4096) : weights w (ix2 k n) = w (ix3 0 k (column n)) := by
  pointwise [weights, column]

/-- One element of the product, its row flattened. -/
theorem prod_at (h : FVec Ideal S16x256x2048 .f32) (w : FVec Ideal S2048x4096 .f32) (r : Fin 4096) (n : Fin 4096) :
    (truncf .bf16 (shapeCast S4096x4096 (Host.dotGeneral dot_S16x256x2048_S2048x4096_S16x256x4096_2_0_01_1_n_n none h w : FVec Ideal S16x256x4096 .f32) shapeCasts_S16x256x4096_S4096x4096 : FVec Ideal S4096x4096 .f32) bitsLt_bf16_f32 : FVec Ideal S4096x4096 .bf16) (ix2 r n)
      = ∑ k : Fin 2048, h (ix3 (batch r.val) (token r.val) k) * w (ix2 k n) := by
  pointwise
  have e : (⟨r.val / 256, by omega⟩ : Fin 16) = batch r.val := Fin.ext (Nat.mod_eq_of_lt (by omega)).symm
  exact Finset.sum_congr rfl fun k _ => by rw [e]; rfl

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v24)
        = keysValues (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun j => ?_), (h c).2⟩) (Cert.ContextRefIdeal.Value.run m ρ)
  obtain ⟨r, n, rfl⟩ : ∃ r n, j = ix2 r n := ⟨j 0, j 1, eq_ix2 j⟩
  exact (prod_at (norm _ _ _ _) (weights _) r n).trans (Finset.sum_congr rfl fun k _ =>
    congrArg₂ (· * ·) (norm_at _ _ _ _ _ _ _) (weights_at _ _ _))

end Cert.ContextRefIdeal.Hand

end
-- ==== Proof.ContextClaim.lean ====
module

public import proofs.«01_k».proof.Defs
public import proofs.«01_k».proof.Proof.Context
public import proofs.«01_k».proof.Proof.Gen.Context.Frame
public import proofs.«01_k».proof.Proof.ContextRef

/-! The claims of the context's keys and values: the three frames, and the equation with the plainly written ones. -/

@[expose] public section

set_option maxRecDepth 16384
set_option maxHeartbeats 4000000

noncomputable section

namespace Cert.Proof.ContextClaims

open Idealize.ShloMosaic Idealize.ShloMosaic.TcCoe Idealize.SL.Sem

theorem quiescent_kernel : Cert.quiescent_Context := fun m ρ _ => Cert.Context.Gen.frame m ρ

theorem quiescent_ideal : Cert.quiescent_ContextIdeal := fun m ρ _ => Cert.ContextIdeal.Gen.frame m ρ

theorem quiescent_ref : Cert.quiescent_ContextRefIdeal := fun m ρ _ =>
  (θ_run Cert.ContextRefIdeal.defs _ _).mono (fun r h => ⟨fun c => (h c).2, sem_eq_zero_of_no_sems (by decide) r.2⟩)
    (Cert.ContextRefIdeal.Hand.run m ρ)

theorem algebraic : Cert.algebraic_ContextIdeal_ContextRefIdeal := by
  pair_intro
  · run_from Cert.ContextIdeal.Value.run_blocks m g
  · run_from Cert.ContextRefIdeal.Hand.run m' g'
    exact (Cert.ContextIdeal.Hand.final m c).symm

end Cert.Proof.ContextClaims

end
-- ==== Proof.lean ====
/- The proof of every claim, from the modules that prove each call's. -/
module

public import proofs.«01_k».proof.Defs
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.InprojIdeal.Value
public import proofs.«01_k».proof.Proof.Gen.MergeIdeal.Value
public import proofs.«01_k».proof.Proof.Gen.PostIdeal.Value
public import proofs.«01_k».proof.Proof.Gen.InprojRefIdeal.Run
public import proofs.«01_k».proof.Proof.Gen.MergeRefIdeal.Run
public import proofs.«01_k».proof.Proof.Gen.PostRefIdeal.Run
public import proofs.«01_k».proof.Proof.Gen.Kernel.Frame
public import proofs.«01_k».proof.Proof.Gen.Kernel
public import proofs.«01_k».proof.Proof.Gen.KernelIdeal.Frame
public import proofs.«01_k».proof.Proof.Gen.KernelIdeal.Loops
public import proofs.«01_k».proof.Proof.Gen.Kernel.Loops
public import proofs.«01_k».proof.Proof.Gen.KernelIdeal
public import proofs.«01_k».proof.Proof.Gen.ReferenceIdeal.Run
public import proofs.«01_k».proof.Proof.Gen.ReferenceIdeal
public import proofs.«01_k».proof.Proof.Gen.Context
public import proofs.«01_k».proof.Proof.Gen.Context.Frame
public import proofs.«01_k».proof.Proof.Gen.ContextIdeal
public import proofs.«01_k».proof.Proof.Gen.ContextIdeal.Frame
public import proofs.«01_k».proof.Proof.Gen.ContextIdeal.Value
public import proofs.«01_k».proof.Proof.Gen.ContextRefIdeal
public import proofs.«01_k».proof.Proof.Gen.ContextRefIdeal.Run
public import proofs.«01_k».proof.Proof.RetClaim
public import proofs.«01_k».proof.Proof.InprojClaim
public import proofs.«01_k».proof.Proof.MergeClaim
public import proofs.«01_k».proof.Proof.PostClaim
public import proofs.«01_k».proof.Proof.ContextClaim
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.Inproj.Gen.facts, Cert.InprojIdeal.Gen.facts, Cert.InprojRefIdeal.Gen.facts, Cert.Merge.Gen.facts, Cert.MergeIdeal.Gen.facts, Cert.MergeRefIdeal.Gen.facts, Cert.Post.Gen.facts, Cert.PostIdeal.Gen.facts, Cert.PostRefIdeal.Gen.facts, Cert.Context.Gen.facts, Cert.ContextIdeal.Gen.facts, Cert.ContextRefIdeal.Gen.facts, Cert.Pre_finite_qkv.facts,
  RetClaims.quiescent_kernel, RetClaims.quiescent_ideal, @RetClaims.quiescent_ideal_pre Cert.Pre_finite_qkv.facts,
  RetClaims.quiescent_ref, @RetClaims.quiescent_ref_pre Cert.Pre_finite_qkv.facts,
  InprojClaims.quiescent_kernel, InprojClaims.quiescent_ideal, InprojClaims.quiescent_ref,
  MergeClaims.quiescent_kernel, MergeClaims.quiescent_ideal, MergeClaims.quiescent_ref,
  PostClaims.quiescent_kernel, PostClaims.quiescent_ideal, PostClaims.quiescent_ref,
  ContextClaims.quiescent_kernel, ContextClaims.quiescent_ideal, ContextClaims.quiescent_ref,
  trivial, @RetClaims.algebraic Cert.Pre_finite_qkv.facts,
  trivial, InprojClaims.algebraic, trivial, MergeClaims.algebraic, trivial, PostClaims.algebraic, trivial, ContextClaims.algebraic⟩

end Cert.Proof

end
